-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S80x1x5120 : Shape := ⟨3, ![80, 1, 5120]⟩
abbrev S5120x27648 : Shape := ⟨2, ![5120, 27648]⟩
abbrev S_ : Shape := ⟨0, ![]⟩
abbrev S80x1 : Shape := ⟨2, ![80, 1]⟩
abbrev S27648 : Shape := ⟨1, ![27648]⟩

class Facts : Prop where
  bitsLt_bf16_f32 : FTy.bits .bf16 < FTy.bits .f32
  reducesTo_S80x1x5120_S80x1_d2 : S80x1x5120.ReducesTo [2] S80x1
  h_S_ : 0 < S_.numel
  reducesTo_S5120x27648_S27648_d0 : S5120x27648.ReducesTo [0] S27648
  bcast_S_S80x1 : S_.BroadcastsInDim S80x1 (![] : Fin 0 → Fin S80x1.rank)
  bcast_S_S27648 : S_.BroadcastsInDim S27648 (![] : Fin 0 → Fin S27648.rank)

variable [Facts]

def fn_part1 {F : FTy → Type} [FloatOps F] (main_v5 : FVec F S27648 .f32) (main_v15 : IVec S80x1 1) (main_v16 : FVec F S27648 .f32) : IVec S80x1 1 × IVec S27648 1 :=
  let main_v17 : FVec F S27648 .f32 := mulf main_v5 main_v16
  let main_cst_6 : FVec F S_ .f32 := constant S_ .f32 0x00000000#32
  let main_v18 : FVec F S27648 .f32 := broadcastInDim S27648 ![] bcast_S_S27648 main_cst_6
  let main_v19 : IVec S27648 1 := cmpf .oeq main_v5 main_v18
  let main_cst_7 : FVec F S_ .f32 := constant S_ .f32 0x00800000#32
  let main_v20 : FVec F S27648 .f32 := broadcastInDim S27648 ![] bcast_S_S27648 main_cst_7
  let main_v21 : IVec S27648 1 := cmpf .oge main_v17 main_v20
  let main_cst_8 : FVec F S_ .f32 := constant S_ .f32 0x7E800000#32
  let main_v22 : FVec F S27648 .f32 := broadcastInDim S27648 ![] bcast_S_S27648 main_cst_8
  let main_v23 : IVec S27648 1 := cmpf .olt main_v17 main_v22
  let main_v24 : IVec S27648 1 := andi main_v21 main_v23
  let main_v25 : IVec S27648 1 := ori main_v19 main_v24
  (main_v15, main_v25)

def fn {F : FTy → Type} [FloatOps F] (main_arg0 : FVec F S80x1x5120 .bf16) (main_arg1 : FVec F S5120x27648 .bf16) : IVec S80x1 1 × IVec S27648 1 :=
  let main_v0 : FVec F S80x1x5120 .f32 := (extf .f32 · bitsLt_bf16_f32) main_arg0
  let main_v1 : FVec F S80x1x5120 .f32 := Host.absf main_v0
  let main_cst : FVec F S_ .f32 := constant S_ .f32 0xFF800000#32
  let main_v2 : FVec F S80x1 .f32 := (fun x v => Host.reduce FloatOps.maximumf x v reducesTo_S80x1x5120_S80x1_d2 h_S_) main_v1 main_cst
  let main_v3 : FVec F S5120x27648 .f32 := (extf .f32 · bitsLt_bf16_f32) main_arg1
  let main_v4 : FVec F S5120x27648 .f32 := Host.absf main_v3
  let main_cst_0 : FVec F S_ .f32 := constant S_ .f32 0xFF800000#32
  let main_v5 : FVec F S27648 .f32 := (fun x v => Host.reduce FloatOps.maximumf x v reducesTo_S5120x27648_S27648_d0 h_S_) main_v4 main_cst_0
  let main_cst_1 : FVec F S_ .f32 := constant S_ .f32 0x3B124925#32
  let main_v6 : FVec F S80x1 .f32 := broadcastInDim S80x1 ![] bcast_S_S80x1 main_cst_1
  let main_v7 : FVec F S80x1 .f32 := mulf main_v2 main_v6
  let main_cst_2 : FVec F S_ .f32 := constant S_ .f32 0x00000000#32
  let main_v8 : FVec F S80x1 .f32 := broadcastInDim S80x1 ![] bcast_S_S80x1 main_cst_2
  let main_v9 : IVec S80x1 1 := cmpf .oeq main_v2 main_v8
  let main_cst_3 : FVec F S_ .f32 := constant S_ .f32 0x00800000#32
  let main_v10 : FVec F S80x1 .f32 := broadcastInDim S80x1 ![] bcast_S_S80x1 main_cst_3
  let main_v11 : IVec S80x1 1 := cmpf .oge main_v7 main_v10
  let main_cst_4 : FVec F S_ .f32 := constant S_ .f32 0x7E800000#32
  let main_v12 : FVec F S80x1 .f32 := broadcastInDim S80x1 ![] bcast_S_S80x1 main_cst_4
  let main_v13 : IVec S80x1 1 := cmpf .olt main_v7 main_v12
  let main_v14 : IVec S80x1 1 := andi main_v11 main_v13
  let main_v15 : IVec S80x1 1 := ori main_v9 main_v14
  let main_cst_5 : FVec F S_ .f32 := constant S_ .f32 0x3B124925#32
  let main_v16 : FVec F S27648 .f32 := broadcastInDim S27648 ![] bcast_S_S27648 main_cst_5
  fn_part1 (F := F) main_v5 main_v15 main_v16
-- ==== Kernel.lean ====
abbrev S80x1x5120 : Shape := ⟨3, ![80, 1, 5120]⟩
abbrev S5120x27648 : Shape := ⟨2, ![5120, 27648]⟩
abbrev S80x5120 : Shape := ⟨2, ![80, 5120]⟩
abbrev S80x27648 : Shape := ⟨2, ![80, 27648]⟩
abbrev S80x1 : Shape := ⟨2, ![80, 1]⟩
abbrev S1x27648 : Shape := ⟨2, ![1, 27648]⟩
abbrev S5120x512 : Shape := ⟨2, ![5120, 512]⟩
abbrev S80x512 : Shape := ⟨2, ![80, 512]⟩
abbrev S1x512 : Shape := ⟨2, ![1, 512]⟩
abbrev S80 : Shape := ⟨1, ![80]⟩
abbrev S16x512 : Shape := ⟨2, ![16, 512]⟩
abbrev S512 : Shape := ⟨1, ![512]⟩
abbrev S256x512 : Shape := ⟨2, ![256, 512]⟩

abbrev nBuf : Space → Nat
  | .hbm => 8
  | .vmem => 11
  | .smem => 0
  | _ => 0

abbrev bufTy : (tb : Table) → Fin (tcTables nBuf tb) → BufTy
  | .hbm, ⟨0, _⟩ => ⟨S80x1x5120, .bf16⟩
  | .hbm, ⟨1, _⟩ => ⟨S5120x27648, .bf16⟩
  | .hbm, ⟨2, _⟩ => ⟨S80x5120, .bf16⟩
  | .hbm, ⟨3, _⟩ => ⟨S80x27648, .bf16⟩
  | .hbm, ⟨4, _⟩ => ⟨S80x5120, .fp8e4m3⟩
  | .hbm, ⟨5, _⟩ => ⟨S80x1, .f32⟩
  | .hbm, ⟨6, _⟩ => ⟨S5120x27648, .fp8e4m3⟩
  | .hbm, ⟨7, _⟩ => ⟨S1x27648, .f32⟩
  | .local _ .vmem, ⟨0, _⟩ => ⟨S80x5120, .bf16⟩
  | .local _ .vmem, ⟨1, _⟩ => ⟨S5120x512, .bf16⟩
  | .local _ .vmem, ⟨2, _⟩ => ⟨S5120x512, .bf16⟩
  | .local _ .vmem, ⟨3, _⟩ => ⟨S80x512, .bf16⟩
  | .local _ .vmem, ⟨4, _⟩ => ⟨S80x512, .bf16⟩
  | .local _ .vmem, ⟨5, _⟩ => ⟨S80x5120, .fp8e4m3⟩
  | .local _ .vmem, ⟨6, _⟩ => ⟨S80x1, .f32⟩
  | .local _ .vmem, ⟨7, _⟩ => ⟨S5120x512, .fp8e4m3⟩
  | .local _ .vmem, ⟨8, _⟩ => ⟨S5120x512, .fp8e4m3⟩
  | .local _ .vmem, ⟨9, _⟩ => ⟨S1x512, .f32⟩
  | .local _ .vmem, ⟨10, _⟩ => ⟨S1x512, .f32⟩
  | _, _ => ⟨S80x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![54], ![false]⟩

@[reducible] def k0_t1_loop : Scf.Loop 32 :=
  let c0_i32_1 : BitVec 32 := 0#32
  let c20_i32 : BitVec 32 := 20#32
  let v4 : BitVec 32 := Scalar.addi c0_i32_1 c20_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c256_i32 : BitVec 32 := 256#32
  let v117 : BitVec 32 := Scalar.muli arg8 c256_i32
  v117
def k0_off1 (k0_t1 : Fin k0_t1_loop.trips) (c0_i32_40 : BitVec 32) : Fin 2 → Nat :=
  let c0_i32_1 : BitVec 32 := 0#32
  let c1_i32 : BitVec 32 := 1#32
  let arg8 : BitVec 32 := Scf.iv c0_i32_1 c1_i32 k0_t1
  let c256_i32 : BitVec 32 := 256#32
  let v117 : BitVec 32 := Scalar.muli arg8 c256_i32
  let v118 : BitVec 32 := v117
  let v119 : BitVec 32 := Scalar.addi v118 c0_i32_40
  let v120 : Index := Scalar.indexCast v119
  let c0_41 : Index := 0#32
  ![v120.toNat, 0]
@[reducible] def k0_t2_loop : Scf.Loop 32 :=
  let c0_i32_27 : BitVec 32 := 0#32
  let c20_i32_28 : BitVec 32 := 20#32
  let v103 : BitVec 32 := Scalar.addi c0_i32_27 c20_i32_28
  let c1_i32_29 : BitVec 32 := 1#32
  ⟨c0_i32_27, v103, c1_i32_29⟩
def k0_mult2 (k0_t2 : Fin k0_t2_loop.trips) : BitVec 32 :=
  let c0_i32_27 : BitVec 32 := 0#32
  let c1_i32_29 : BitVec 32 := 1#32
  let arg8 : BitVec 32 := Scf.iv c0_i32_27 c1_i32_29 k0_t2
  let c256_i32 : BitVec 32 := 256#32
  let v117 : BitVec 32 := Scalar.muli arg8 c256_i32
  v117
def k0_off2 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v117 : BitVec 32 := Scalar.muli arg8 c256_i32
  let v118 : BitVec 32 := v117
  let v119 : Index := Scalar.indexCast v118
  let c0_40 : Index := 0#32
  ![v119.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S80x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5120x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S80x1x5120 : Shape := ⟨3, ![80, 1, 5120]⟩
abbrev S5120x27648 : Shape := ⟨2, ![5120, 27648]⟩
abbrev S80x5120 : Shape := ⟨2, ![80, 5120]⟩
abbrev S80x27648 : Shape := ⟨2, ![80, 27648]⟩
abbrev S80x1 : Shape := ⟨2, ![80, 1]⟩
abbrev S1x27648 : Shape := ⟨2, ![1, 27648]⟩
abbrev S80 : Shape := ⟨1, ![80]⟩
abbrev S27648 : Shape := ⟨1, ![27648]⟩

abbrev nBuf : Space → Nat
  | .hbm => 8
  | .vmem => 7
  | .smem => 0
  | _ => 0

abbrev bufTy : (tb : Table) → Fin (tcTables nBuf tb) → BufTy
  | .hbm, ⟨0, _⟩ => ⟨S80x1x5120, .bf16⟩
  | .hbm, ⟨1, _⟩ => ⟨S5120x27648, .bf16⟩
  | .hbm, ⟨2, _⟩ => ⟨S80x5120, .bf16⟩
  | .hbm, ⟨3, _⟩ => ⟨S80x27648, .bf16⟩
  | .hbm, ⟨4, _⟩ => ⟨S80x5120, .fp8e4m3⟩
  | .hbm, ⟨5, _⟩ => ⟨S80x1, .f32⟩
  | .hbm, ⟨6, _⟩ => ⟨S5120x27648, .fp8e4m3⟩
  | .hbm, ⟨7, _⟩ => ⟨S1x27648, .f32⟩
  | .local _ .vmem, ⟨0, _⟩ => ⟨S80x5120, .bf16⟩
  | .local _ .vmem, ⟨1, _⟩ => ⟨S5120x27648, .bf16⟩
  | .local _ .vmem, ⟨2, _⟩ => ⟨S80x27648, .bf16⟩
  | .local _ .vmem, ⟨3, _⟩ => ⟨S80x5120, .fp8e4m3⟩
  | .local _ .vmem, ⟨4, _⟩ => ⟨S80x1, .f32⟩
  | .local _ .vmem, ⟨5, _⟩ => ⟨S5120x27648, .fp8e4m3⟩
  | .local _ .vmem, ⟨6, _⟩ => ⟨S1x27648, .f32⟩
  | _, _ => ⟨S80x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S80x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x27648 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x27648 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x27648 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x27648 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelLoops.lean ====
/- What the two row loops of the kernel's body compute on one column block of the weights, as plain
   functions of the block: the running column maxima, and the codes written row slab by row slab. -/
module

public import proofs.«01_k».proof.Proof.Gen.KernelIdeal.Loops
public import Idealize.ShloMosaic.Lib.ValueIdx
public import Idealize.ShloMosaic.Lib.WholeRead
public import Idealize.ShloMosaic.Lib.Tactic

@[expose] public section

noncomputable section

namespace Cert.KernelIdeal.Hand

open Idealize.ShloMosaic Idealize.ShloMosaic.TcCoe Idealize.ShloMosaic.ValueIdx Idealize.ShloMosaic.Tactic
open Cert.KernelIdeal Cert.KernelIdeal.Gen

variable {F : FTy → Type} [FloatOps F]

/-- Both loops run twenty trips. -/
theorem trips1 : k0_t1_loop.trips = 20 := by decide +kernel
/-- The encoding loop has 20 iterations. -/
theorem trips2 : k0_t2_loop.trips = 20 := by decide +kernel

/-- The rows a trip of the first loop reads start at `256 k + 16 r`. -/
theorem off1 (k : Fin k0_t1_loop.trips) (r : Fin 16) :
    k0_off1 k (BitVec.ofNat 32 (16 * r.val)) = ![256 * k.val + 16 * r.val, 0] := by
  have hk : k.val < 20 := lt_of_lt_of_eq k.isLt trips1
  have hr := r.isLt
  unfold k0_off1
  simp only [Scf.iv, Scalar.muli, Scalar.addi, Scalar.indexCast, IntOp.muli, IntOp.addi]
  congr 1
  simp [BitVec.toNat_add, BitVec.toNat_mul, BitVec.toNat_ofNat]
  omega

/-- The rows a trip of the second loop reads and writes start at `256 k`. -/
theorem off2 (k : Fin k0_t2_loop.trips) : k0_off2 k = ![256 * k.val, 0] := by
  have hk : k.val < 20 := lt_of_lt_of_eq k.isLt trips2
  unfold k0_off2
  simp only [Scf.iv, Scalar.muli, Scalar.addi, Scalar.indexCast, IntOp.muli, IntOp.addi]
  congr 1
  simp [BitVec.toNat_add, BitVec.toNat_mul, BitVec.toNat_ofNat]
  omega

/-- Sixteen consecutive rows of a weight block, from row `256 k + 16 r`. -/
def rows16 (x1 : Vec F S5120x512 .bf16) (k : Fin 20) (r : Fin 16) : Vec F S16x512 .bf16 :=
  fun j => x1 (ix2 ⟨256 * k.val + 16 * r.val + (j 0).val, by have := idx2_lt0 j; omega⟩ (j 1))

/-- The 256 consecutive rows of a weight block from row `256 k`. -/
def rows256 (x1 : Vec F S5120x512 .bf16) (k : Fin 20) : Vec F S256x512 .bf16 :=
  fun j => x1 (ix2 ⟨256 * k.val + (j 0).val, by have := idx2_lt0 j; omega⟩ (j 1))

/-- A load of sixteen rows of the first loop reads those rows of the block. -/
theorem readAt_off1 (arg2 : Memref sig .tc .vmem S5120x512 .bf16) (harg2 : arg2.IsWhole) (x1 : Vec F S5120x512 .bf16)
    (k : Fin k0_t1_loop.trips) (r : Fin 16) (w : BitVec 32) (hw : w = BitVec.ofNat 32 (16 * r.val))
    (inb : ∀ a, (k0_off1 k w) a + S16x512.size a ≤ S5120x512.size a) :
    View.readAt (Elt F) arg2.view (Rect.unit (s := S5120x512) (k0_off1 k w) S16x512.size inb).toLoadRect (Memref.IsWhole.unread harg2 x1)
      = rows16 x1 (k.cast trips1) r := by
  subst hw
  funext j
  rw [Memref.IsWhole.readAt_unread]
  unfold rows16
  congr 1
  have e := off1 k r
  funext a
  apply Fin.ext
  match a with
  | ⟨0, _⟩ =>
    show (k0_off1 k (BitVec.ofNat 32 (16 * r.val))) 0 + 1 * (j 0).val = 256 * k.val + 16 * r.val + (j 0).val
    rw [show k0_off1 k (BitVec.ofNat 32 (16 * r.val)) 0 = 256 * k.val + 16 * r.val from by rw [e]; rfl, Nat.one_mul]
  | ⟨1, _⟩ =>
    show (k0_off1 k (BitVec.ofNat 32 (16 * r.val))) 1 + 1 * (j 1).val = (j 1).val
    rw [show k0_off1 k (BitVec.ofNat 32 (16 * r.val)) 1 = 0 from by rw [e]; rfl, Nat.one_mul, Nat.zero_add]

/-- A load of the second loop reads its 256 rows of the block. -/
theorem readAt_off2 (arg2 : Memref sig .tc .vmem S5120x512 .bf16) (harg2 : arg2.IsWhole) (x1 : Vec F S5120x512 .bf16)
    (k : Fin k0_t2_loop.trips)
    (inb : ∀ a, (k0_off2 k) a + S256x512.size a ≤ S5120x512.size a) :
    View.readAt (Elt F) arg2.view (Rect.unit (s := S5120x512) (k0_off2 k) S256x512.size inb).toLoadRect (Memref.IsWhole.unread harg2 x1)
      = rows256 x1 (k.cast trips2) := by
  funext j
  rw [Memref.IsWhole.readAt_unread]
  unfold rows256
  congr 1
  have e := off2 k
  funext a
  apply Fin.ext
  match a with
  | ⟨0, _⟩ =>
    show (k0_off2 k) 0 + 1 * (j 0).val = 256 * k.val + (j 0).val
    rw [show k0_off2 k 0 = 256 * k.val from by rw [e]; rfl, Nat.one_mul]
  | ⟨1, _⟩ =>
    show (k0_off2 k) 1 + 1 * (j 1).val = (j 1).val
    rw [show k0_off2 k 1 = 0 from by rw [e]; rfl, Nat.one_mul, Nat.zero_add]

/-- One trip of the first loop: the carried maxima raised by sixteen slabs of sixteen rows. -/
def maxTrip (x1 : Vec F S5120x512 .bf16) (k : Fin 20) (acc : FVec F S16x512 .bf16) : FVec F S16x512 .bf16 :=
  k0_pay11 (k0_pay7 acc (rows16 x1 k 0) (rows16 x1 k 1) (rows16 x1 k 2) (rows16 x1 k 3) (rows16 x1 k 4) (rows16 x1 k 5)
      (rows16 x1 k 6) (rows16 x1 k 7))
    (rows16 x1 k 8) (rows16 x1 k 9) (rows16 x1 k 10) (rows16 x1 k 11) (rows16 x1 k 12) (rows16 x1 k 13)
    (rows16 x1 k 14) (rows16 x1 k 15)

/-- The carried maxima before trip `n`. -/
def maxUpTo (x1 : Vec F S5120x512 .bf16) : ℕ → FVec F S16x512 .bf16
  | 0 => k0_pay10
  | n + 1 => if h : n < 20 then maxTrip x1 ⟨n, h⟩ (maxUpTo x1 n) else maxUpTo x1 n

/-- The maxima the first loop ends with: sixteen partial maxima per column. -/
def maxAll (x1 : Vec F S5120x512 .bf16) : FVec F S16x512 .bf16 := maxUpTo x1 20

/-- One trip of the first loop, as run, is `maxTrip`. -/
theorem trip1_eq (𝒱 : Variants) (c : Dev nD) (bd : Option 𝒱.V) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (x1 : Vec F S5120x512 .bf16) (k : Fin k0_t1_loop.trips) (acc : FVec F S16x512 .bf16) :
    tripR_k0_t1 (F := F) 𝒱 c bd i arg1 harg1 arg2 harg2 arg3 harg3 arg4 harg4 arg5 harg5 arg6 harg6 arg7 harg7 (Memref.IsWhole.unread harg2 x1) k acc = maxTrip x1 (k.cast trips1) acc := by
  unfold tripR_k0_t1 trip_k0_t1
  dsimp only
  sl_unfold_words
  unfold maxTrip
  have H := readAt_off1 arg2 harg2 x1 k
  congr 1
  · congr 1
    · exact H 0 _ rfl _
    · exact H 1 _ rfl _
    · exact H 2 _ rfl _
    · exact H 3 _ rfl _
    · exact H 4 _ rfl _
    · exact H 5 _ rfl _
    · exact H 6 _ rfl _
    · exact H 7 _ rfl _
  · exact H 8 _ rfl _
  · exact H 9 _ rfl _
  · exact H 10 _ rfl _
  · exact H 11 _ rfl _
  · exact H 12 _ rfl _
  · exact H 13 _ rfl _
  · exact H 14 _ rfl _
  · exact H 15 _ rfl _

/-- The carried value before trip `n`, as run, is `maxUpTo`. -/
theorem st1_eq (𝒱 : Variants) (c : Dev nD) (bd : Option 𝒱.V) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (x1 : Vec F S5120x512 .bf16) (n : ℕ) (hn : n ≤ 20) :
    st_k0_t1 (F := F) 𝒱 c bd i arg1 harg1 arg2 harg2 arg3 harg3 arg4 harg4 arg5 harg5 arg6 harg6 arg7 harg7 (Memref.IsWhole.unread harg2 x1) k0_pay10 n = maxUpTo x1 n := by
  induction n with
  | zero => rfl
  | succ n ih =>
    have hk : n < k0_t1_loop.trips := by rw [trips1]; omega
    have e := st_k0_t1_succ (F := F) 𝒱 c bd i arg1 harg1 arg2 harg2 arg3 harg3 arg4 harg4 arg5 harg5 arg6 harg6 arg7 harg7 (Memref.IsWhole.unread harg2 x1) k0_pay10 ⟨n, hk⟩
    rw [e, trip1_eq, ih (by omega), maxUpTo, dif_pos (by omega : n < 20)]
    rfl

/-- The weight codes of a block: row `r`'s is what the trip that covers it stores. -/
def codesOf (v83 : IVec S1x512 32) (x1 : Vec F S5120x512 .bf16) : Vec F S5120x512 .fp8e4m3 :=
  fun i => k0_pay17 v83 (rows256 x1 ⟨(i 0).val / 256, by have := idx2_lt0 i; omega⟩)
    (ix2 ⟨(i 0).val % 256, Nat.mod_lt _ (by decide)⟩ (i 1))

/-- One trip of the second loop, as run, writes its 256 rows' codes. -/
theorem trip2_eq (𝒱 : Variants) (c : Dev nD) (bd : Option 𝒱.V) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (v83 : IVec S1x512 32) (x1 : Vec F S5120x512 .bf16) (k : Fin k0_t2_loop.trips) :
    tripL_k0_t2 (F := F) 𝒱 c bd i arg1 harg1 arg2 harg2 arg3 harg3 arg4 harg4 arg5 harg5 arg6 harg6 arg7 harg7 v83 (Memref.IsWhole.unread harg2 x1) k
      = [⟨Rect.unit (s := S5120x512) (k0_off2 k) S256x512.size (k0_off2_inb k), k0_pay17 v83 (rows256 x1 (k.cast trips2))⟩] := by
  unfold tripL_k0_t2 trip_k0_t2
  dsimp only
  rw [← readAt_off2 arg2 harg2 x1 k (k0_off2_inb k)]

/-- The code at row `256 k + a` of the block is what trip `k` computes at its row `a`. -/
theorem codesOf_at (v83 : IVec S1x512 32) (x1 : Vec F S5120x512 .bf16) (k : Fin 20) (x : S256x512.Idx) (y : S5120x512.Idx)
    (h0 : (y 0).val = 256 * k.val + (x 0).val) (h1 : (y 1).val = (x 1).val) :
    k0_pay17 v83 (rows256 x1 k) x = codesOf v83 x1 y := by
  have hx0 : (x 0).val < 256 := idx2_lt0 x
  unfold codesOf
  have ek : (⟨(y 0).val / 256, by have := idx2_lt0 y; omega⟩ : Fin 20) = k := Fin.ext (by show (y 0).val / 256 = k.val; omega)
  rw [ek]
  congr 1
  refine (eq_ix2 (n0 := 256) (n1 := 512) x).trans ?_
  have e0 : x 0 = ⟨(y 0).val % 256, Nat.mod_lt _ (by decide)⟩ := Fin.ext (by show (x 0).val = (y 0).val % 256; omega)
  have e1 : x 1 = y 1 := Fin.ext h1.symm
  rw [e0, e1]
  rfl

/-- Trip `k`'s rows placed in the block. -/
theorem emb2_val (k : Fin k0_t2_loop.trips) (x : S256x512.Idx) :
    ((Rect.unit (s := S5120x512) (k0_off2 k) S256x512.size (k0_off2_inb k)).emb x 0).val = 256 * k.val + (x 0).val
    ∧ ((Rect.unit (s := S5120x512) (k0_off2 k) S256x512.size (k0_off2_inb k)).emb x 1).val = (x 1).val := by
  have o0 : k0_off2 k 0 = 256 * k.val := by rw [off2]; rfl
  have o1 : k0_off2 k 1 = 0 := by rw [off2]; rfl
  constructor
  · show (k0_off2 k) 0 + 1 * (x 0).val = _
    rw [o0, Nat.one_mul]
  · show (k0_off2 k) 1 + 1 * (x 1).val = _
    rw [o1, Nat.one_mul, Nat.zero_add]

/-- Every piece of the second loop agrees with `codesOf`. -/
theorem pb2_agree (𝒱 : Variants) (c : Dev nD) (bd : Option 𝒱.V) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (v83 : IVec S1x512 32) (x1 : Vec F S5120x512 .bf16) (n : ℕ) (hn : n ≤ 20) :
    ∀ p ∈ pb_k0_t2 (F := F) 𝒱 c bd i arg1 harg1 arg2 harg2 arg3 harg3 arg4 harg4 arg5 harg5 arg6 harg6 arg7 harg7 v83 (Memref.IsWhole.unread harg2 x1) n,
      ∀ x : p.1.shape.Idx, p.2 x = codesOf v83 x1 (p.1.emb x) := by
  induction n with
  | zero => intro p hp; exact absurd hp List.not_mem_nil
  | succ n ih =>
    have hk : n < k0_t2_loop.trips := by rw [trips2]; omega
    have e := pb_k0_t2_succ (F := F) 𝒱 c bd i arg1 harg1 arg2 harg2 arg3 harg3 arg4 harg4 arg5 harg5 arg6 harg6 arg7 harg7 v83 (Memref.IsWhole.unread harg2 x1) ⟨n, hk⟩
    intro p hp
    rw [e, trip2_eq] at hp
    rcases List.mem_append.mp hp with hp | hp
    · rw [List.mem_singleton] at hp
      subst hp
      intro x
      exact codesOf_at v83 x1 _ x _ (emb2_val ⟨n, hk⟩ x).1 (emb2_val ⟨n, hk⟩ x).2
    · exact ih (by omega) p hp

/-- The pieces of the second loop cover the block. -/
theorem pb2_cover (𝒱 : Variants) (c : Dev nD) (bd : Option 𝒱.V) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (v83 : IVec S1x512 32) (x1 : Vec F S5120x512 .bf16) (n : ℕ) (hn : n ≤ 20)
    (y : S5120x512.Idx) (hy : (y 0).val < 256 * n) :
    ∃ p ∈ pb_k0_t2 (F := F) 𝒱 c bd i arg1 harg1 arg2 harg2 arg3 harg3 arg4 harg4 arg5 harg5 arg6 harg6 arg7 harg7 v83 (Memref.IsWhole.unread harg2 x1) n, y ∈ p.1.set := by
  induction n with
  | zero => omega
  | succ n ih =>
    have hk : n < k0_t2_loop.trips := by rw [trips2]; omega
    have e := pb_k0_t2_succ (F := F) 𝒱 c bd i arg1 harg1 arg2 harg2 arg3 harg3 arg4 harg4 arg5 harg5 arg6 harg6 arg7 harg7 v83 (Memref.IsWhole.unread harg2 x1) ⟨n, hk⟩
    rw [e, trip2_eq]
    by_cases hlt : (y 0).val < 256 * n
    · obtain ⟨p, hp, h⟩ := ih (by omega) hlt
      exact ⟨p, List.mem_append_right _ hp, h⟩
    · refine ⟨_, List.mem_append_left _ (List.mem_singleton.mpr rfl), ?_⟩
      rw [Rect.mem_set_unit]
      have o0 : k0_off2 ⟨n, hk⟩ 0 = 256 * n := by rw [off2]; rfl
      have o1 : k0_off2 ⟨n, hk⟩ 1 = 0 := by rw [off2]; rfl
      have h1 := idx2_lt1 y
      intro a
      match a with
      | ⟨0, _⟩ =>
        show (k0_off2 ⟨n, hk⟩) 0 ≤ (y 0).val ∧ (y 0).val < (k0_off2 ⟨n, hk⟩) 0 + 256
        omega
      | ⟨1, _⟩ =>
        show (k0_off2 ⟨n, hk⟩) 1 ≤ (y 1).val ∧ (y 1).val < (k0_off2 ⟨n, hk⟩) 1 + 512
        omega

/-- After the second loop the code buffer reads the block's codes, whatever it held before. -/
theorem read_pb2 (𝒱 : Variants) (c : Dev nD) (bd : Option 𝒱.V) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (v83 : IVec S1x512 32) (x1 : Vec F S5120x512 .bf16) (f : arg6.view.ty.Contents (Elt F)) :
    View.read (Elt F) arg6.view (arg6.view.writes (Elt F) f
      (pb_k0_t2 (F := F) 𝒱 c bd i arg1 harg1 arg2 harg2 arg3 harg3 arg4 harg4 arg5 harg5 arg6 harg6 arg7 harg7 v83 (Memref.IsWhole.unread harg2 x1) 20)) = codesOf v83 x1 := by
  funext y
  exact View.read_writes_apply_of_pieces _ _ _ _ (pb2_agree 𝒱 c bd i arg1 harg1 arg2 harg2 arg3 harg3 arg4 harg4 arg5 harg5 arg6 harg6 arg7 harg7 v83 x1 20 le_rfl) y
    (pb2_cover 𝒱 c bd i arg1 harg1 arg2 harg2 arg3 harg3 arg4 harg4 arg5 harg5 arg6 harg6 arg7 harg7 v83 x1 20 le_rfl y (by have := idx2_lt0 y; omega))

end Cert.KernelIdeal.Hand
end
-- ==== Proof.KernelRun.lean ====
/- The kernel's body run once, with what each result block ends holding named: at the first grid point (where
   the activations are quantised too) and at every later point (where the codes and scales found are reused). -/
module

public import proofs.«01_k».proof.Proof.KernelLoops
public import proofs.«01_k».proof.Proof.Gen.KernelIdeal.Frame
public import Idealize.ShloMosaic.Lib.Pipeline.Value
public import Idealize.ShloMosaic.Lib.VecWindow
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## What the body computes from its blocks -/

/-- The exponent field the kernel finds for each activation row. -/
def xField (x0 : Vec F S80x5120 .bf16) : IVec S80x1 32 := k0_pay6 (k0_pay2 x0) (k0_pay3 x0) (k0_pay4 x0) k0_pay5
/-- The activation codes. -/
def xCodes (x0 : Vec F S80x5120 .bf16) : Vec F S80x5120 .fp8e4m3 := k0_pay9 (k0_pay1 x0) (xField x0)
/-- The activation scales. -/
def xScales (x0 : Vec F S80x5120 .bf16) : Vec F S80x1 .f32 := k0_pay8 (xField x0)
/-- The exponent field the kernel finds for each weight column of a block. -/
def wField (x1 : Vec F S5120x512 .bf16) : IVec S1x512 32 := k0_pay14 (k0_pay12 (maxAll x1)) (k0_pay13 (maxAll x1))
/-- The weight codes of a block. -/
def wCodes (x1 : Vec F S5120x512 .bf16) : Vec F S5120x512 .fp8e4m3 := codesOf (wField x1) x1
/-- The weight scales of a block. -/
def wScales (x1 : Vec F S5120x512 .bf16) : Vec F S1x512 .f32 := k0_pay16 (wField x1)
/-- The output block, from the activation codes and scales and the weight block. -/
def yBlock (x1 : Vec F S5120x512 .bf16) (xc : Vec F S80x5120 .fp8e4m3) (xs : Vec F S80x1 .f32) : Vec F S80x512 .bf16 :=
  k0_pay18 (wField x1) xc (wCodes x1) xs

/-- The body's branch: quantise the activations too. -/
abbrev cond0_0 (i : grid0.Coords) : Prop := k0_cond1 i = 1#1

/-- The offsets zero, zero. -/
theorem hz : (![0, 0] : Fin 2 → Nat) = fun _ => 0 := funext fun a => by fin_cases a <;> rfl

set_option maxHeartbeats 1000000 in
/-- The body at the first grid point: every result block is written. -/
theorem run_A (c : Dev nD) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (hc0 : cond0_0 i)
    (x0 : Vec F S80x5120 .bf16) (x1 : Vec F S5120x512 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare (yBlock x1 (xCodes x0) (xScales x0)) ∗ owns (c : Thread nD τ) arg4 fullShare (xCodes x0) ∗ owns (c : Thread nD τ) arg5 fullShare (xScales x0) ∗ owns (c : Thread nD τ) arg6 fullShare (wCodes x1) ∗ owns (c : Thread nD τ) arg7 fullShare (wScales x1)) -∗ K ⟨⟩))
          ⊢ wp frame (wpE (defs₀ (F := F)) Variants.none c none) E (cc0_fp8_rowcol_linear i arg1 harg1 arg2 harg2 arg3 harg3 arg4 harg4 arg5 harg5 arg6 harg6 arg7 harg7) K := by
    intro E K
    simp only [cc0_fp8_rowcol_linear_eq_skeleton]; unfold cc0_fp8_rowcol_linear_skel
    simp only [k0_part6_eq_skeleton, k0_part4_eq_skeleton, k0_part1_eq_skeleton, k0_part2_eq_skeleton, k0_part5_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1
    have hm : st_k0_t1 (F := F) Variants.none c none i arg1 harg1 arg2 harg2 arg3 harg3 arg4 harg4 arg5 harg5 arg6 harg6 arg7 harg7 (Memref.IsWhole.unread harg2 x1) k0_pay10
        (Scf.trips k0_t1_loop.lb k0_t1_loop.ub k0_t1_loop.st) = maxAll x1 :=
      st1_eq Variants.none c none i arg1 harg1 arg2 harg2 arg3 harg3 arg4 harg4 arg5 harg5 arg6 harg6 arg7 harg7 x1 20 le_rfl
    have hw : ∀ (v : IVec S1x512 32) (f : arg6.view.ty.Contents (Elt F)), View.read (Elt F) arg6.view (arg6.view.writes (Elt F) f
        (pb_k0_t2 (F := F) Variants.none c none i arg1 harg1 arg2 harg2 arg3 harg3 arg4 harg4 arg5 harg5 arg6 harg6 arg7 harg7 v (Memref.IsWhole.unread harg2 x1)
          (Scf.trips k0_t2_loop.lb k0_t2_loop.ub k0_t2_loop.st))) = codesOf v x1 := fun v f =>
      read_pb2 Variants.none c none i arg1 harg1 arg2 harg2 arg3 harg3 arg4 harg4 arg5 harg5 arg6 harg6 arg7 harg7 v x1 f
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      sl_unfold_words
      repeat (first | rw [hm] | rw [hw] | rw [View.read_writes_full] | rw [View.readCov_full] | rw [View.readAt_full] | rw [Memref.IsWhole.read_unread])
      all_goals rfl
    isplitl [H3]
    · iexists _; isplitr; swap; · iexact H3
      ipureintro
      sl_unfold_words
      repeat (first | rw [hm] | rw [hw] | rw [View.read_writes_full] | rw [View.readCov_full] | rw [View.readAt_full] | rw [Memref.IsWhole.read_unread])
      all_goals rfl
    isplitl [H4]
    · iexists _; isplitr; swap; · iexact H4
      ipureintro
      sl_unfold_words
      repeat (first | rw [hm] | rw [hw] | rw [View.read_writes_full] | rw [View.readCov_full] | rw [View.readAt_full] | rw [Memref.IsWhole.read_unread])
      all_goals rfl
    isplitl [H5]
    · iexists _; isplitr; swap; · iexact H5
      ipureintro
      sl_unfold_words
      repeat (first | rw [hm] | rw [hw] | rw [View.read_writes_full] | rw [View.readCov_full] | rw [View.readAt_full] | rw [Memref.IsWhole.read_unread])
      all_goals rfl
    iexists _; isplitr; swap; · iexact H6
    ipureintro
    sl_unfold_words
    repeat (first | rw [hm] | rw [hw] | rw [View.read_writes_full] | rw [View.readCov_full] | rw [View.readAt_full] | rw [Memref.IsWhole.read_unread])
    all_goals rfl

set_option maxHeartbeats 1000000 in
/-- The body at a later grid point: the activation codes and scales it is given are read and left as they are. -/
theorem run_B (c : Dev nD) (i : grid0.Coords) (arg1 : Memref sig .tc .vmem S80x5120 .bf16) (harg1 : arg1.IsWhole) (arg2 : Memref sig .tc .vmem S5120x512 .bf16) (harg2 : arg2.IsWhole) (arg3 : Memref sig .tc .vmem S80x512 .bf16) (harg3 : arg3.IsWhole) (arg4 : Memref sig .tc .vmem S80x5120 .fp8e4m3) (harg4 : arg4.IsWhole) (arg5 : Memref sig .tc .vmem S80x1 .f32) (harg5 : arg5.IsWhole) (arg6 : Memref sig .tc .vmem S5120x512 .fp8e4m3) (harg6 : arg6.IsWhole) (arg7 : Memref sig .tc .vmem S1x512 .f32) (harg7 : arg7.IsWhole) (hc0 : ¬ cond0_0 i)
    (x0 : Vec F S80x5120 .bf16) (x1 : Vec F S5120x512 .bf16)
    (xc : Vec F S80x5120 .fp8e4m3) (xs : Vec F S80x1 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xc ∗ owns (c : Thread nD τ) arg5 fullShare xs ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare (yBlock x1 xc xs) ∗ owns (c : Thread nD τ) arg4 fullShare xc ∗ owns (c : Thread nD τ) arg5 fullShare xs ∗ owns (c : Thread nD τ) arg6 fullShare (wCodes x1) ∗ owns (c : Thread nD τ) arg7 fullShare (wScales x1)) -∗ K ⟨⟩))
          ⊢ wp frame (wpE (defs₀ (F := F)) Variants.none c none) E (cc0_fp8_rowcol_linear i arg1 harg1 arg2 harg2 arg3 harg3 arg4 harg4 arg5 harg5 arg6 harg6 arg7 harg7) K := by
    intro E K
    simp only [cc0_fp8_rowcol_linear_eq_skeleton]; unfold cc0_fp8_rowcol_linear_skel
    simp only [k0_part6_eq_skeleton, k0_part4_eq_skeleton, k0_part5_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    have hm : st_k0_t1 (F := F) Variants.none c none i arg1 harg1 arg2 harg2 arg3 harg3 arg4 harg4 arg5 harg5 arg6 harg6 arg7 harg7 (Memref.IsWhole.unread harg2 x1) k0_pay10
        (Scf.trips k0_t1_loop.lb k0_t1_loop.ub k0_t1_loop.st) = maxAll x1 :=
      st1_eq Variants.none c none i arg1 harg1 arg2 harg2 arg3 harg3 arg4 harg4 arg5 harg5 arg6 harg6 arg7 harg7 x1 20 le_rfl
    have hw : ∀ (v : IVec S1x512 32) (f : arg6.view.ty.Contents (Elt F)), View.read (Elt F) arg6.view (arg6.view.writes (Elt F) f
        (pb_k0_t2 (F := F) Variants.none c none i arg1 harg1 arg2 harg2 arg3 harg3 arg4 harg4 arg5 harg5 arg6 harg6 arg7 harg7 v (Memref.IsWhole.unread harg2 x1)
          (Scf.trips k0_t2_loop.lb k0_t2_loop.ub k0_t2_loop.st))) = codesOf v x1 := fun v f =>
      read_pb2 Variants.none c none i arg1 harg1 arg2 harg2 arg3 harg3 arg4 harg4 arg5 harg5 arg6 harg6 arg7 harg7 v x1 f
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      sl_unfold_words
      repeat (first | rw [hm] | rw [hw] | rw [View.read_writes_full] | rw [View.readCov_full] | rw [View.readAt_full] | rw [Memref.IsWhole.read_unread])
      all_goals rfl
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_words
      repeat (first | rw [hm] | rw [hw] | rw [View.read_writes_full] | rw [View.readCov_full] | rw [View.readAt_full] | rw [Memref.IsWhole.read_unread])
      all_goals rfl
    iexists _; isplitr; swap; · iexact H6
    ipureintro
    sl_unfold_words
    repeat (first | rw [hm] | rw [hw] | rw [View.read_writes_full] | rw [View.readCov_full] | rw [View.readAt_full] | rw [Memref.IsWhole.read_unread])
    all_goals rfl

end Cert.KernelIdeal.Hand
end
-- ==== Proof.KernelFrame.lean ====
/- The pipeline's proof data for the kernel: what every window's buffer holds after the body at every point, the
   body's obligation at a generic point, and the run of the whole program. The activation codes and scales are
   computed at the first point and stay in their buffers until the last one, which writes them back. -/
module

public import proofs.«01_k».proof.Proof.KernelRun
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0_0, k0_cond1, e0]
    word_cmp
   : ∀ t : Fin grid0.N, cond0_0 (grid0.coords t) ↔ t.val % 54 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- The window of the product is never idle. -/
theorem liveAt0_2 : ∀ t : Fin cfg0.N, cfg0.idle 2 (grid0.coords t) = false := fun _ => rfl
/-- The window of the weight codes is never idle. -/
theorem liveAt0_5 : ∀ t : Fin cfg0.N, cfg0.idle 5 (grid0.coords t) = false := fun _ => rfl
/-- The window of the weight scales is never idle. -/
theorem liveAt0_6 : ∀ t : Fin cfg0.N, cfg0.idle 6 (grid0.coords t) = false := fun _ => rfl

/-- Each window's current staging memref at point `t`, spelled as the pipeline passes it (`bodyAt0`), and its wholeness. -/
abbrev ms0_0 (t : Fin cfg0.N) : Memref sig .tc .vmem S80x5120 .bf16 := win0_0.stage (cfg0.slots t 0)
/-- The current staging buffer of the activations is whole. -/
abbrev hs0_0 (t : Fin cfg0.N) : (ms0_0 t).IsWhole := hstage0_0 ((cfg0.slots t 0).cast nbuf0_0)
/-- The current staging buffer of the weights. -/
abbrev ms0_1 (t : Fin cfg0.N) : Memref sig .tc .vmem S5120x512 .bf16 := win0_1.stage (cfg0.slots t 1)
/-- The current staging buffer of the weights is whole. -/
abbrev hs0_1 (t : Fin cfg0.N) : (ms0_1 t).IsWhole := hstage0_1 ((cfg0.slots t 1).cast nbuf0_1)
/-- The current staging buffer of the product. -/
abbrev ms0_2 (t : Fin cfg0.N) : Memref sig .tc .vmem S80x512 .bf16 := win0_2.stage (cfg0.slots t 2)
/-- The current staging buffer of the product is whole. -/
abbrev hs0_2 (t : Fin cfg0.N) : (ms0_2 t).IsWhole := hstage0_2 ((cfg0.slots t 2).cast nbuf0_2)
/-- The current staging buffer of the activation codes. -/
abbrev ms0_3 (t : Fin cfg0.N) : Memref sig .tc .vmem S80x5120 .fp8e4m3 := win0_3.stage (cfg0.slots t 3)
/-- The current staging buffer of the activation codes is whole. -/
abbrev hs0_3 (t : Fin cfg0.N) : (ms0_3 t).IsWhole := hstage0_3 ((cfg0.slots t 3).cast nbuf0_3)
/-- The current staging buffer of the activation scales. -/
abbrev ms0_4 (t : Fin cfg0.N) : Memref sig .tc .vmem S80x1 .f32 := win0_4.stage (cfg0.slots t 4)
/-- The current staging buffer of the activation scales is whole. -/
abbrev hs0_4 (t : Fin cfg0.N) : (ms0_4 t).IsWhole := hstage0_4 ((cfg0.slots t 4).cast nbuf0_4)
/-- The current staging buffer of the weight codes. -/
abbrev ms0_5 (t : Fin cfg0.N) : Memref sig .tc .vmem S5120x512 .fp8e4m3 := win0_5.stage (cfg0.slots t 5)
/-- The current staging buffer of the weight codes is whole. -/
abbrev hs0_5 (t : Fin cfg0.N) : (ms0_5 t).IsWhole := hstage0_5 ((cfg0.slots t 5).cast nbuf0_5)
/-- The current staging buffer of the weight scales. -/
abbrev ms0_6 (t : Fin cfg0.N) : Memref sig .tc .vmem S1x512 .f32 := win0_6.stage (cfg0.slots t 6)
/-- The current staging buffer of the weight scales is whole. -/
abbrev hs0_6 (t : Fin cfg0.N) : (ms0_6 t).IsWhole := hstage0_6 ((cfg0.slots t 6).cast nbuf0_6)

/-! ## The proof data -/

/-- The first grid point. -/
abbrev p0 : Fin cfg0.N := ⟨0, by rw [show cfg0.N = 54 from N_0]; decide⟩

/-- The activation block. -/
abbrev bx (c : Dev nD) : Vec F S80x5120 .bf16 := iblk m c 0 p0
/-- The weight block at a point. -/
abbrev bw (c : Dev nD) (t : Fin cfg0.N) : Vec F S5120x512 .bf16 := iblk m c 1 t

/-- Every point has the same activation block. -/
theorem iblk0 (c : Dev nD) (t : Fin cfg0.N) : iblk m c 0 t = bx m c := rfl

/-- The proof data on core `c`: each input's buffer at its block; each output's at what the body computes from the
    activation block and the point's weight block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => yBlock (bw m c t) (xCodes (bx m c)) (xScales (bx m c))
    | ⟨3, _⟩ => xCodes (bx m c)
    | ⟨4, _⟩ => xScales (bx m c)
    | ⟨5, _⟩ => wCodes (bw m c t)
    | ⟨6, _⟩ => wScales (bw m c t)
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- What the staging buffer of the activations holds after the body. -/
theorem after0_0 (c : Dev nD) (t : Fin cfg0.N) : (dats m 0 c).after 0 t = iblk m c 0 t := by dsimp only [dats]
/-- What the staging buffer of the weights holds after the body. -/
theorem after0_1 (c : Dev nD) (t : Fin cfg0.N) : (dats m 0 c).after 1 t = iblk m c 1 t := by dsimp only [dats]
/-- What the staging buffer of the product holds after the body. -/
theorem after0_2 (c : Dev nD) (t : Fin cfg0.N) :
    (dats m 0 c).after 2 t = yBlock (bw m c t) (xCodes (bx m c)) (xScales (bx m c)) := by dsimp only [dats]
/-- What the staging buffer of the activation codes holds after the body. -/
theorem after0_3 (c : Dev nD) (t : Fin cfg0.N) : (dats m 0 c).after 3 t = xCodes (bx m c) := by dsimp only [dats]
/-- What the staging buffer of the activation scales holds after the body. -/
theorem after0_4 (c : Dev nD) (t : Fin cfg0.N) : (dats m 0 c).after 4 t = xScales (bx m c) := by dsimp only [dats]
/-- What the staging buffer of the weight codes holds after the body. -/
theorem after0_5 (c : Dev nD) (t : Fin cfg0.N) : (dats m 0 c).after 5 t = wCodes (bw m c t) := by dsimp only [dats]
/-- What the staging buffer of the weight scales holds after the body. -/
theorem after0_6 (c : Dev nD) (t : Fin cfg0.N) : (dats m 0 c).after 6 t = wScales (bw m c t) := by dsimp only [dats]

/-- What the staging buffer of the activations holds before the body. -/
theorem before0_0 (c : Dev nD) (t : Fin cfg0.N) (d) : (dats m 0 c).before 0 t d = iblk m c 0 t :=
  before0_0_of m (dats m 0 c) (A_eq m c 0) (after0_0 m c) t d
/-- What the staging buffer of the weights holds before the body. -/
theorem before0_1 (c : Dev nD) (t : Fin cfg0.N) (d) : (dats m 0 c).before 1 t d = iblk m c 1 t :=
  before0_1_of m (dats m 0 c) (A_eq m c 1) (after0_1 m c) t d

/-- Window 3 is idle at every point but the first. -/
theorem idle0_3 (t : Fin cfg0.N) (h : t.val % 54 ≠ 0) : cfg0.idle 3 (grid0.coords t) = true := by
  have hc : ¬ cond0_0 (grid0.coords t) := fun e => h ((hcond0_0 t).mp e)
  show (!(k0_cond1 (grid0.coords t) == 1#1)) = true
  simpa [cond0_0] using hc
/-- The activation codes' window is live at the first point. -/
theorem live0_3 (t : Fin cfg0.N) (h : t.val % 54 = 0) : cfg0.idle 3 (grid0.coords t) = false := by
  have hc : cond0_0 (grid0.coords t) := (hcond0_0 t).mpr h
  show (!(k0_cond1 (grid0.coords t) == 1#1)) = false
  simpa [cond0_0] using hc

/-- After the first point the buffer of window 3 holds what the first point left in it. -/
theorem before0_3 (c : Dev nD) : ∀ (n : ℕ) (h : n + 1 < cfg0.N) (d), (dats m 0 c).before 3 ⟨n + 1, h⟩ d = (dats m 0 c).after 3 p0 := by
  intro n
  induction n with
  | zero =>
    intro h d
    have hN : cfg0.N = 54 := N_0
    rw [show (dats m 0 c).before 3 ⟨0 + 1, h⟩ d = if (cfg0.win 3).flush p0 then d else (dats m 0 c).left 3 p0 d from
      Dat.before_of_pos _ _ _ (Nat.succ_ne_zero 0) rfl d]
    have hf : ¬ (cfg0.win 3).flush p0 = true := fun e => by have := (flush0_3 p0).mp e; simp at this
    rw [if_neg hf]
    unfold Dat.left
    rw [show cfg0.idle 3 (cfg0.grid.coords p0) = false from live0_3 p0 rfl]
    rfl
  | succ n ih =>
    intro h d
    have hN : cfg0.N = 54 := N_0
    have hn : n + 1 < cfg0.N := Nat.lt_of_succ_lt h
    rw [show (dats m 0 c).before 3 ⟨n + 1 + 1, h⟩ d = if (cfg0.win 3).flush ⟨n + 1, hn⟩ then d else (dats m 0 c).left 3 ⟨n + 1, hn⟩ d from
      Dat.before_of_pos _ _ _ (Nat.succ_ne_zero _) rfl d]
    have hf : ¬ (cfg0.win 3).flush ⟨n + 1, hn⟩ = true := fun e => by have := (flush0_3 _).mp e; simp only at this; omega
    rw [if_neg hf]
    unfold Dat.left
    rw [show cfg0.idle 3 (cfg0.grid.coords ⟨n + 1, hn⟩) = true from idle0_3 ⟨n + 1, hn⟩ (by show (n + 1) % 54 ≠ 0; omega)]
    exact ih hn d

/-- At a later point the body hands window 3's buffer back as it found it, which is what is written back. -/
theorem keeps0_3 (c : Dev nD) (t : Fin cfg0.N) (h : t.val % 54 ≠ 0) :
    owns (c : Thread nD τ) (ms0_3 t) fullShare ((dats m 0 c).after 3 p0) ⊢ ((dats m 0 c).leavesExact 3 t : sProp 𝕄) := by
  have hN : t.val < 54 := lt_of_lt_of_eq t.isLt (show cfg0.N = 54 from N_0)
  by_cases hf : (cfg0.win 3).flush t = true
  · unfold Dat.leavesExact
    rw [idle0_3 t h, hf]
    exact .rfl
  · rw [(dats m 0 c).leavesExact_idle 3 t (idle0_3 t h) (by simpa using hf)]
    obtain ⟨n, hn⟩ := t
    cases n with
    | zero => exact absurd rfl h
    | succ n =>
      iintro H
      iexists (fun _ => Classical.arbitrary _)
      rw [before0_3]
      iexact H

/-- Window 4 is idle at every point but the first. -/
theorem idle0_4 (t : Fin cfg0.N) (h : t.val % 54 ≠ 0) : cfg0.idle 4 (grid0.coords t) = true := by
  have hc : ¬ cond0_0 (grid0.coords t) := fun e => h ((hcond0_0 t).mp e)
  show (!(k0_cond1 (grid0.coords t) == 1#1)) = true
  simpa [cond0_0] using hc
/-- The activation scales' window is live at the first point. -/
theorem live0_4 (t : Fin cfg0.N) (h : t.val % 54 = 0) : cfg0.idle 4 (grid0.coords t) = false := by
  have hc : cond0_0 (grid0.coords t) := (hcond0_0 t).mpr h
  show (!(k0_cond1 (grid0.coords t) == 1#1)) = false
  simpa [cond0_0] using hc

/-- After the first point the buffer of window 4 holds what the first point left in it. -/
theorem before0_4 (c : Dev nD) : ∀ (n : ℕ) (h : n + 1 < cfg0.N) (d), (dats m 0 c).before 4 ⟨n + 1, h⟩ d = (dats m 0 c).after 4 p0 := by
  intro n
  induction n with
  | zero =>
    intro h d
    have hN : cfg0.N = 54 := N_0
    rw [show (dats m 0 c).before 4 ⟨0 + 1, h⟩ d = if (cfg0.win 4).flush p0 then d else (dats m 0 c).left 4 p0 d from
      Dat.before_of_pos _ _ _ (Nat.succ_ne_zero 0) rfl d]
    have hf : ¬ (cfg0.win 4).flush p0 = true := fun e => by have := (flush0_4 p0).mp e; simp at this
    rw [if_neg hf]
    unfold Dat.left
    rw [show cfg0.idle 4 (cfg0.grid.coords p0) = false from live0_4 p0 rfl]
    rfl
  | succ n ih =>
    intro h d
    have hN : cfg0.N = 54 := N_0
    have hn : n + 1 < cfg0.N := Nat.lt_of_succ_lt h
    rw [show (dats m 0 c).before 4 ⟨n + 1 + 1, h⟩ d = if (cfg0.win 4).flush ⟨n + 1, hn⟩ then d else (dats m 0 c).left 4 ⟨n + 1, hn⟩ d from
      Dat.before_of_pos _ _ _ (Nat.succ_ne_zero _) rfl d]
    have hf : ¬ (cfg0.win 4).flush ⟨n + 1, hn⟩ = true := fun e => by have := (flush0_4 _).mp e; simp only at this; omega
    rw [if_neg hf]
    unfold Dat.left
    rw [show cfg0.idle 4 (cfg0.grid.coords ⟨n + 1, hn⟩) = true from idle0_4 ⟨n + 1, hn⟩ (by show (n + 1) % 54 ≠ 0; omega)]
    exact ih hn d

/-- At a later point the body hands window 4's buffer back as it found it, which is what is written back. -/
theorem keeps0_4 (c : Dev nD) (t : Fin cfg0.N) (h : t.val % 54 ≠ 0) :
    owns (c : Thread nD τ) (ms0_4 t) fullShare ((dats m 0 c).after 4 p0) ⊢ ((dats m 0 c).leavesExact 4 t : sProp 𝕄) := by
  have hN : t.val < 54 := lt_of_lt_of_eq t.isLt (show cfg0.N = 54 from N_0)
  by_cases hf : (cfg0.win 4).flush t = true
  · unfold Dat.leavesExact
    rw [idle0_4 t h, hf]
    exact .rfl
  · rw [(dats m 0 c).leavesExact_idle 4 t (idle0_4 t h) (by simpa using hf)]
    obtain ⟨n, hn⟩ := t
    cases n with
    | zero => exact absurd rfl h
    | succ n =>
      iintro H
      iexists (fun _ => Classical.arbitrary _)
      rw [before0_4]
      iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the body must leave in the window of the activations: its buffer with the stated contents. -/
theorem exact0_0 (c : Dev nD) (t : Fin cfg0.N) : (dats m 0 c).leavesExact 0 t = owns (c : Thread nD τ) (ms0_0 t) fullShare ((dats m 0 c).after 0 t) := by
  unfold Dat.leavesExact; rw [liveAt0_0 t]
/-- What the body must leave in the window of the weights: its buffer with the stated contents. -/
theorem exact0_1 (c : Dev nD) (t : Fin cfg0.N) : (dats m 0 c).leavesExact 1 t = owns (c : Thread nD τ) (ms0_1 t) fullShare ((dats m 0 c).after 1 t) := by
  unfold Dat.leavesExact; rw [liveAt0_1 t]
/-- What the body must leave in the window of the product: its buffer with the stated contents. -/
theorem exact0_2 (c : Dev nD) (t : Fin cfg0.N) : (dats m 0 c).leavesExact 2 t = owns (c : Thread nD τ) (ms0_2 t) fullShare ((dats m 0 c).after 2 t) := by
  unfold Dat.leavesExact; rw [liveAt0_2 t]
/-- What the body must leave in the window of the weight codes: its buffer with the stated contents. -/
theorem exact0_5 (c : Dev nD) (t : Fin cfg0.N) : (dats m 0 c).leavesExact 5 t = owns (c : Thread nD τ) (ms0_5 t) fullShare ((dats m 0 c).after 5 t) := by
  unfold Dat.leavesExact; rw [liveAt0_5 t]
/-- What the body must leave in the window of the weight scales: its buffer with the stated contents. -/
theorem exact0_6 (c : Dev nD) (t : Fin cfg0.N) : (dats m 0 c).leavesExact 6 t = owns (c : Thread nD τ) (ms0_6 t) fullShare ((dats m 0 c).after 6 t) := by
  unfold Dat.leavesExact; rw [liveAt0_6 t]
/-- What the body must leave in the window of the activation codes: its buffer with the stated contents. -/
theorem exact0_3 (c : Dev nD) (t : Fin cfg0.N) (h : t.val % 54 = 0) : (dats m 0 c).leavesExact 3 t = owns (c : Thread nD τ) (ms0_3 t) fullShare ((dats m 0 c).after 3 t) := by
  unfold Dat.leavesExact; rw [live0_3 t h]
/-- What the body must leave in the window of the activation scales: its buffer with the stated contents. -/
theorem exact0_4 (c : Dev nD) (t : Fin cfg0.N) (h : t.val % 54 = 0) : (dats m 0 c).leavesExact 4 t = owns (c : Thread nD τ) (ms0_4 t) fullShare ((dats m 0 c).after 4 t) := by
  unfold Dat.leavesExact; rw [live0_4 t h]

set_option maxHeartbeats 1600000 in
/-- The body at any point returns what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    exact0_0, exact0_1, exact0_2, exact0_5, exact0_6, after0_0, after0_1, after0_2, after0_5, after0_6]
  by_cases h0 : t.val % 54 = 0
  · rw [exact0_3 m c t h0, exact0_4 m c t h0, after0_3, after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_A c (grid0.coords t) _ _ _ _ _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have b3 : ∀ d, (dats m 0 c).before 3 t d = xCodes (bx m c) := by
      intro d; obtain ⟨n, hn⟩ := t
      cases n with
      | zero => exact absurd rfl h0
      | succ n => rw [before0_3, after0_3]
    have b4 : ∀ d, (dats m 0 c).before 4 t d = xScales (bx m c) := by
      intro d; obtain ⟨n, hn⟩ := t
      cases n with
      | zero => exact absurd rfl h0
      | succ n => rw [before0_4, after0_4]
    simp only [b3, b4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_B c (grid0.coords t) _ _ _ _ _ _ _ _ _ _ _ _ _ _ (fun h => h0 ((hcond0_0 t).mp h)) (iblk m c 0 t) (iblk m c 1 t) (xCodes (bx m c)) (xScales (bx m c))) Set.univ _)
    isplitl [H0]; · iexact H0
    isplitl [H1]; · iexact H1
    isplitl [H2]; · iexists _; iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iapply (keeps0_3 m c t h0); rw [after0_3]; iexact H3
    isplitl [H4]; · iapply (keeps0_4 m c t h0); rw [after0_4]; iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program's run: every array of the pipeline ends at what the proof data states, every other buffer as the
    region found it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand
end
-- ==== Proof.SameProgram.lean ====
/- The program as printed and the program read over the extended reals are one program: no operation was rewritten
   between them. So what is proved of the second over any floats holds of the first. -/
module

public import proofs.«01_k».proof.Proof.Gen.Kernel
public import proofs.«01_k».proof.Proof.KernelFrame

@[expose] public section

set_option maxRecDepth 16384

namespace Cert.SameProgram

open Idealize.ShloMosaic Idealize.ShloMosaic.TcCoe Idealize.SL.Sem

variable {F : FTy → Type} [FloatOps F]

/-- The two tables of kernel bodies are equal. -/
theorem defs₀_eq : Cert.Kernel.defs₀ (F := F) = Cert.KernelIdeal.defs₀ (F := F) := by
  unfold Cert.Kernel.defs₀ Cert.KernelIdeal.defs₀
  refine congrArg Defs.onTc (funext fun l => ?_)
  match l with
  | 0 => funext ⟨t, s⟩; rfl

/-- The two body tables, the pipeline's included, are equal. -/
theorem defs_eq : Cert.Kernel.defs (F := F) = Cert.KernelIdeal.defs (F := F) :=
  congrArg (Pipeline.defs (Cert.Kernel.pcfgs (F := F))) defs₀_eq

/-- The two entry functions are equal. -/
theorem main_eq : Cert.Kernel.main (F := F) = Cert.KernelIdeal.main (F := F) := rfl

/-- The frame of the program as printed: the argument arrays end unchanged and every counter at zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact Cert.KernelIdeal.Hand.frame m g

end Cert.SameProgram
-- ==== Proof.Scale.lean ====
/- The power-of-two scale of an e4m3 quantiser, over the extended reals: the exponent field found bit by bit by
   comparing with powers of two, against the exponent as the floor of a base-two logarithm. -/
module

public import Idealize.ShloMosaic.PureOps.Ideal
public import Idealize.ShloMosaic.PureOps.Ideal.Laws

@[expose] public section

noncomputable section

namespace Cert.Quant

open Idealize.ShloMosaic

/-! ## The kernel's side: an exponent field found bit by bit -/

/-- The float whose word is an exponent field `f` shifted into place. -/
def word (f : BitVec 32) : EReal := Ideal.ofBits .f32 (IntOp.shli .vector f 23#32)

/-- One step of the search: add `s` to the field if the float at `f + s` does not exceed `q`. -/
def step (q : EReal) (s f : BitVec 32) : BitVec 32 :=
  Scalar.select (Ideal.cmp .oge q (word (IntOp.addi f s))) (IntOp.addi f s) f

/-- The field found: eight steps, greatest first. -/
def search (q : EReal) : BitVec 32 :=
  step q 1#32 (step q 2#32 (step q 4#32 (step q 8#32 (step q 16#32 (step q 32#32 (step q 64#32 (step q 128#32 0#32)))))))

/-- A field of a normal number is kept; any other becomes 126. -/
def regular (f : BitVec 32) : BitVec 32 :=
  Scalar.select (IntOp.andi (IntOp.cmpi .sgt f 0#32) (IntOp.cmpi .slt f 255#32)) f 126#32

/-- The kernel's scale. -/
def scaleK (q : EReal) : EReal := word (IntOp.addi (regular (search q)) 1#32)
/-- The kernel's inverse of the scale. -/
def invK (q : EReal) : EReal := word (IntOp.subi 253#32 (regular (search q)))

/-! ## The reference's side: the floor of a logarithm -/

/-- The exponent, from the absolute maximum `a` and `q`, the maximum over 448. -/
def expR (a q : EReal) : EReal :=
  Scalar.select (Ideal.cmp .oeq a (Ideal.ofBits .f32 0x00000000#32)) (Ideal.ofBits .f32 0x00000000#32)
    (Ideal.liftRound Int.floor (Ideal.div (Ideal.log q) (Ideal.log (Ideal.ofBits .f32 0x40000000#32))) + Ideal.ofBits .f32 0x3F800000#32)
/-- The reference's scale. -/
def scaleR (a q : EReal) : EReal := Ideal.exp2 (expR a q)
/-- The reference's inverse of the scale. -/
def invR (a q : EReal) : EReal := Ideal.exp2 (Ideal.ofBits .f32 0x00000000#32 - expR a q)

/-! ## Powers of two as words -/

/-- The three parts of the word `n · 2^23`: sign zero, exponent field `n`, fraction zero. -/
theorem word_fields : ∀ n : Fin 255, (IntOp.shli .vector (BitVec.ofNat 32 n.val) 23#32).extractLsb' (8 + 23) 1 = 0#1 ∧
    ((IntOp.shli .vector (BitVec.ofNat 32 n.val) 23#32).extractLsb' 23 8).toNat = n.val ∧
    ((IntOp.shli .vector (BitVec.ofNat 32 n.val) 23#32).extractLsb' 0 23).toNat = 0 := by
  decide +kernel

/-- A word with these parts is the float `2^(n - 127)`. -/
theorem ieee_of_fields (w : BitVec 32) (n : ℕ) (h1 : 1 ≤ n) (h2 : n ≤ 254) (e1 : w.extractLsb' (8 + 23) 1 = 0#1)
    (e2 : (w.extractLsb' 23 8).toNat = n) (e3 : (w.extractLsb' 0 23).toNat = 0) :
    Ideal.ieee 8 23 w = (((2 : ℝ) ^ ((n : ℤ) - 127) : ℝ) : EReal) := by
  unfold Ideal.ieee
  simp only [e1, e2, e3]
  rw [if_neg (by norm_num; omega), if_neg (by omega)]
  have h : ((2 : ℝ) ^ 23 : ℝ) * (2 : ℝ) ^ ((n : ℤ) - 127 - (23 : ℕ)) = (2 : ℝ) ^ ((n : ℤ) - 127) := by
    rw [← zpow_natCast, ← zpow_add₀ (by norm_num : (2 : ℝ) ≠ 0)]
    congr 1; push_cast; ring
  have hb : ((2 : ℤ) ^ (8 - 1) - 1) = 127 := by norm_num
  have hs : (if ((0#1 : BitVec 1) == 1#1) = true then (-1 : ℝ) else 1) = 1 := if_neg (by decide)
  have hc : (((2 ^ 23 + 0 : ℕ) : ℝ)) = (2 : ℝ) ^ 23 := by rw [Nat.add_zero, Nat.cast_pow, Nat.cast_ofNat]
  rw [← h, hb, hs, hc, one_mul]

/-- A word `n · 2^23` with `1 ≤ n ≤ 254` is the float `2^(n - 127)`. -/
theorem word_ofNat (n : ℕ) (h1 : 1 ≤ n) (h2 : n ≤ 254) : word (BitVec.ofNat 32 n) = (((2 : ℝ) ^ ((n : ℤ) - 127) : ℝ) : EReal) :=
  have h := word_fields ⟨n, by omega⟩
  ieee_of_fields _ n h1 h2 h.1 h.2.1 h.2.2

/-- The word of the all-ones field is plus infinity. -/
theorem word_255 : word (BitVec.ofNat 32 255) = ⊤ := by
  have hs : IntOp.shli .vector (BitVec.ofNat 32 255) 23#32 = 0x7F800000#32 := by decide +kernel
  unfold word
  rw [hs]
  show Ideal.ieee 8 23 0x7F800000#32 = _
  unfold Ideal.ieee
  have e1 : (0x7F800000#32).extractLsb' (8 + 23) 1 = 0#1 := by decide +kernel
  have e2 : ((0x7F800000#32).extractLsb' 23 8).toNat = 255 := by decide +kernel
  have e3 : ((0x7F800000#32).extractLsb' 0 23).toNat = 0 := by decide +kernel
  simp only [e1, e2, e3]
  norm_num

/-! ## The search -/

/-- A select on "at least" is an if. -/
theorem select_oge (q w : EReal) {α : Type} (a b : α) : Scalar.select (Ideal.cmp .oge q w) a b = if w ≤ q then a else b := by
  unfold Scalar.select Ideal.cmp
  by_cases h : w ≤ q <;> simp [h]

/-- Addition of words is addition of numbers. -/
theorem addi_ofNat (a b : ℕ) : IntOp.addi (BitVec.ofNat 32 a) (BitVec.ofNat 32 b) = BitVec.ofNat 32 (a + b) := by
  show BitVec.ofNat 32 a + BitVec.ofNat 32 b = _
  rw [BitVec.ofNat_add]

/-- A step finds the next bit of the exponent `e`. -/
theorem step_spec (q : ℝ) (e f s : ℕ) (hq1 : (2 : ℝ) ^ ((e : ℤ) - 127) ≤ q) (hq2 : q < (2 : ℝ) ^ ((e : ℤ) - 126))
    (he : e ≤ 254) (hs : 1 ≤ s) (hf : f ≤ e) (hfe : e < f + 2 * s) (hfs : f + 2 * s ≤ 256) :
    ∃ f' : ℕ, step (q : EReal) (BitVec.ofNat 32 s) (BitVec.ofNat 32 f) = BitVec.ofNat 32 f' ∧ f' ≤ e ∧ e < f' + s ∧ f' + s ≤ 256 := by
  unfold step
  rw [select_oge, addi_ofNat]
  by_cases h : f + s ≤ e
  · refine ⟨f + s, ?_, h, by omega, by omega⟩
    rw [word_ofNat (f + s) (by omega) (by omega), if_pos]
    rw [EReal.coe_le_coe_iff]
    refine le_trans ?_ hq1
    exact zpow_le_zpow_right₀ (by norm_num) (by push_cast; omega)
  · refine ⟨f, ?_, hf, by omega, by omega⟩
    rw [if_neg]
    intro hw
    by_cases h255 : f + s = 255
    · rw [h255, word_255, top_le_iff] at hw
      exact EReal.coe_ne_top q hw
    · rw [word_ofNat (f + s) (by omega) (by omega), EReal.coe_le_coe_iff] at hw
      have : (2 : ℝ) ^ ((e : ℤ) - 126) ≤ (2 : ℝ) ^ (((f + s : ℕ) : ℤ) - 127) :=
        zpow_le_zpow_right₀ (by norm_num) (by push_cast; omega)
      linarith

/-- The search finds the exponent field. -/
theorem search_spec (q : ℝ) (e : ℕ) (hq1 : (2 : ℝ) ^ ((e : ℤ) - 127) ≤ q) (hq2 : q < (2 : ℝ) ^ ((e : ℤ) - 126))
    (he : e ≤ 254) : search (q : EReal) = BitVec.ofNat 32 e := by
  obtain ⟨f1, h1, a1, b1, c1⟩ := step_spec q e 0 128 hq1 hq2 he (by norm_num) (by omega) (by omega) (by omega)
  obtain ⟨f2, h2, a2, b2, c2⟩ := step_spec q e f1 64 hq1 hq2 he (by norm_num) a1 b1 c1
  obtain ⟨f3, h3, a3, b3, c3⟩ := step_spec q e f2 32 hq1 hq2 he (by norm_num) a2 b2 c2
  obtain ⟨f4, h4, a4, b4, c4⟩ := step_spec q e f3 16 hq1 hq2 he (by norm_num) a3 b3 c3
  obtain ⟨f5, h5, a5, b5, c5⟩ := step_spec q e f4 8 hq1 hq2 he (by norm_num) a4 b4 c4
  obtain ⟨f6, h6, a6, b6, c6⟩ := step_spec q e f5 4 hq1 hq2 he (by norm_num) a5 b5 c5
  obtain ⟨f7, h7, a7, b7, c7⟩ := step_spec q e f6 2 hq1 hq2 he (by norm_num) a6 b6 c6
  obtain ⟨f8, h8, a8, b8, c8⟩ := step_spec q e f7 1 hq1 hq2 he (by norm_num) a7 b7 c7
  unfold search
  rw [h1, h2, h3, h4, h5, h6, h7, h8]
  congr 1; omega

/-- A step from zero at `q = 0` adds nothing. -/
theorem step_zero (s : ℕ) (h1 : 1 ≤ s) (h2 : s ≤ 254) : step 0 (BitVec.ofNat 32 s) 0#32 = 0#32 := by
  unfold step
  rw [select_oge, show (0#32 : BitVec 32) = BitVec.ofNat 32 0 from rfl, addi_ofNat, Nat.zero_add, word_ofNat s h1 h2, if_neg]
  rw [not_le, EReal.coe_pos]
  positivity

/-- At `q = 0` the search finds zero. -/
theorem search_zero : search 0 = 0#32 := by
  unfold search
  rw [step_zero 128 (by norm_num) (by norm_num), step_zero 64 (by norm_num) (by norm_num), step_zero 32 (by norm_num) (by norm_num),
    step_zero 16 (by norm_num) (by norm_num), step_zero 8 (by norm_num) (by norm_num), step_zero 4 (by norm_num) (by norm_num),
    step_zero 2 (by norm_num) (by norm_num), step_zero 1 (by norm_num) (by norm_num)]

/-- Fields 1 to 254 are regular: they stay as they are. -/
theorem regular_fields : ∀ n : Fin 255, 1 ≤ n.val → regular (BitVec.ofNat 32 n.val) = BitVec.ofNat 32 n.val := by
  decide +kernel

/-- The field of a normal number is kept. -/
theorem regular_ofNat (e : ℕ) (h1 : 1 ≤ e) (h2 : e ≤ 254) : regular (BitVec.ofNat 32 e) = BitVec.ofNat 32 e :=
  regular_fields ⟨e, by omega⟩ h1

/-- Field 0 is sent to 126. -/
theorem regular_zero : regular 0#32 = BitVec.ofNat 32 126 := by decide +kernel

/-! ## The two sides agree -/

/-- The word of 2 reads as 2. -/
theorem ofBits_two : Ideal.ofBits .f32 0x40000000#32 = ((2 : ℝ) : EReal) := by
  have := word_ofNat 128 (by norm_num) (by norm_num)
  unfold word at this
  rw [show IntOp.shli .vector (BitVec.ofNat 32 128) 23#32 = 0x40000000#32 by decide +kernel] at this
  rw [this]; norm_num

/-- The word of 1 reads as 1. -/
theorem ofBits_one : Ideal.ofBits .f32 0x3F800000#32 = ((1 : ℝ) : EReal) := by
  have := word_ofNat 127 (by norm_num) (by norm_num)
  unfold word at this
  rw [show IntOp.shli .vector (BitVec.ofNat 32 127) 23#32 = 0x3F800000#32 by decide +kernel] at this
  rw [this]; norm_num

/-- The precondition's lower bound. -/
theorem ofBits_lower : Ideal.ofBits .f32 0x00800000#32 = (((2 : ℝ) ^ (-126 : ℤ) : ℝ) : EReal) := by
  have := word_ofNat 1 (by norm_num) (by norm_num)
  unfold word at this
  rw [show IntOp.shli .vector (BitVec.ofNat 32 1) 23#32 = 0x00800000#32 by decide +kernel] at this
  rw [this]; norm_num

/-- The precondition's upper bound. -/
theorem ofBits_upper : Ideal.ofBits .f32 0x7E800000#32 = (((2 : ℝ) ^ (126 : ℤ) : ℝ) : EReal) := by
  have := word_ofNat 253 (by norm_num) (by norm_num)
  unfold word at this
  rw [show IntOp.shli .vector (BitVec.ofNat 32 253) 23#32 = 0x7E800000#32 by decide +kernel] at this
  rw [this]; norm_num

/-- `exp2` of an integer is that power of two. -/
theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

/-- The reference's exponent of a zero magnitude is 0. -/
theorem expR_zero (q : EReal) : expR 0 q = 0 := by
  unfold expR
  rw [Ideal.ofBits_zero_f32]
  unfold Scalar.select Ideal.cmp
  simp

/-- The reference's exponent at a normal `q`. -/
theorem expR_spec (a : EReal) (ha : a ≠ 0) (q : ℝ) (e : ℕ) (hq1 : (2 : ℝ) ^ ((e : ℤ) - 127) ≤ q) (hq2 : q < (2 : ℝ) ^ ((e : ℤ) - 126)) :
    expR a (q : EReal) = ((((e : ℤ) - 126 : ℤ) : ℝ) : EReal) := by
  have hq : 0 < q := lt_of_lt_of_le (by positivity) hq1
  unfold expR
  rw [Ideal.ofBits_zero_f32, ofBits_two, ofBits_one]
  have hl : Ideal.log (q : EReal) = ((Real.log q : ℝ) : EReal) := by
    show (if q ≤ 0 then (⊥ : EReal) else _) = _
    rw [if_neg (not_le.mpr hq)]
  have hl2 : Ideal.log ((2 : ℝ) : EReal) = ((Real.log 2 : ℝ) : EReal) := by
    show (if (2 : ℝ) ≤ 0 then (⊥ : EReal) else _) = _
    rw [if_neg (by norm_num)]
  have h2 : (0 : ℝ) < Real.log 2 := Real.log_pos (by norm_num)
  have hd : Ideal.div ((Real.log q : ℝ) : EReal) ((Real.log 2 : ℝ) : EReal) = ((Real.log q / Real.log 2 : ℝ) : EReal) := by
    unfold Ideal.div
    rw [if_neg (by rw [EReal.coe_eq_zero]; exact h2.ne'), ← EReal.coe_inv, ← EReal.coe_mul, div_eq_mul_inv]
  have hf : ⌊Real.log q / Real.log 2⌋ = (e : ℤ) - 127 := by
    rw [Int.floor_eq_iff, le_div_iff₀ h2, div_lt_iff₀ h2]
    constructor
    · have := Real.log_le_log (by positivity) hq1
      rwa [Real.log_zpow] at this
    · have := Real.log_lt_log hq hq2
      rw [Real.log_zpow] at this
      refine lt_of_lt_of_eq this ?_
      push_cast; ring
  rw [hl, hl2, hd]
  have hs : Ideal.cmp .oeq a 0 = 0#1 := by unfold Ideal.cmp; simp [ha]
  rw [hs]
  show Ideal.liftRound Int.floor ((Real.log q / Real.log 2 : ℝ) : EReal) + _ = _
  show ((⌊Real.log q / Real.log 2⌋ : ℝ) : EReal) + _ = _
  rw [hf, ← EReal.coe_add]
  congr 1
  push_cast; ring

/-- What the precondition says of one absolute maximum `a`, with `q = a · 1/448`: it is zero, or `q` lies in the range
    where both `2^(e+1)` and its inverse are normal. -/
def InRange (a q : EReal) : Prop :=
  a = 0 ∨ ((((2 : ℝ) ^ (-126 : ℤ) : ℝ) : EReal) ≤ q ∧ q < (((2 : ℝ) ^ (126 : ℤ) : ℝ) : EReal))

/-- A normal `q` has an exponent field. -/
theorem exists_field (q : EReal) (h1 : (((2 : ℝ) ^ (-126 : ℤ) : ℝ) : EReal) ≤ q) (h2 : q < (((2 : ℝ) ^ (126 : ℤ) : ℝ) : EReal)) :
    ∃ (r : ℝ) (e : ℕ), q = (r : EReal) ∧ 1 ≤ e ∧ e ≤ 252 ∧ (2 : ℝ) ^ ((e : ℤ) - 127) ≤ r ∧ r < (2 : ℝ) ^ ((e : ℤ) - 126) := by
  have hb : q ≠ ⊥ := ne_of_gt (lt_of_lt_of_le (EReal.bot_lt_coe _) h1)
  have ht : q ≠ ⊤ := ne_of_lt (lt_trans h2 (EReal.coe_lt_top _))
  lift q to ℝ using ⟨ht, hb⟩
  rw [EReal.coe_le_coe_iff] at h1
  rw [EReal.coe_lt_coe_iff] at h2
  have hq : 0 < q := lt_of_lt_of_le (by positivity) h1
  obtain ⟨n, hn1, hn2⟩ := exists_mem_Ico_zpow hq (by norm_num : (1 : ℝ) < 2)
  have a1 : (-126 : ℤ) < n + 1 := by
    by_contra hc
    have : (2 : ℝ) ^ (n + 1) ≤ (2 : ℝ) ^ (-126 : ℤ) := zpow_le_zpow_right₀ (by norm_num) (by omega)
    linarith
  have a2 : n < 126 := by
    by_contra hc
    have : (2 : ℝ) ^ (126 : ℤ) ≤ (2 : ℝ) ^ n := zpow_le_zpow_right₀ (by norm_num) (by omega)
    linarith
  refine ⟨q, (n + 127).toNat, rfl, by omega, by omega, ?_, ?_⟩
  · rw [show (((n + 127).toNat : ℕ) : ℤ) - 127 = n by omega]; exact hn1
  · rw [show (((n + 127).toNat : ℕ) : ℤ) - 126 = n + 1 by omega]; exact hn2

/-- The scales agree. -/
theorem scale_eq (a q : EReal) (h : InRange a q) (h0 : a = 0 → q = 0) : scaleK q = scaleR a q := by
  rcases h with rfl | ⟨h1, h2⟩
  · rw [h0 rfl]
    unfold scaleK scaleR
    rw [search_zero, regular_zero, show (1#32 : BitVec 32) = BitVec.ofNat 32 1 from rfl, addi_ofNat, word_ofNat _ (by norm_num) (by norm_num), expR_zero]
    rw [show (0 : EReal) = (((0 : ℤ) : ℝ) : EReal) by simp, exp2_int]
    norm_num
  · obtain ⟨r, e, rfl, e1, e2, q1, q2⟩ := exists_field q h1 h2
    have ha : a ≠ 0 := fun ha => by
      have hr := h0 ha
      rw [EReal.coe_eq_zero] at hr
      rw [hr] at q1
      exact absurd q1 (not_le.mpr (by positivity))
    unfold scaleK scaleR
    rw [search_spec r e q1 q2 (by omega), regular_ofNat e e1 (by omega), show (1#32 : BitVec 32) = BitVec.ofNat 32 1 from rfl, addi_ofNat,
      word_ofNat _ (by omega) (by omega), expR_spec a ha r e q1 q2, exp2_int]
    congr 2
    push_cast; ring

/-- Subtraction of words is subtraction of numbers where it does not borrow. -/
theorem subi_ofNat (a b : ℕ) (h : b ≤ a) (ha : a < 2 ^ 32) : IntOp.subi (BitVec.ofNat 32 a) (BitVec.ofNat 32 b) = BitVec.ofNat 32 (a - b) := by
  show BitVec.ofNat 32 a - BitVec.ofNat 32 b = _
  apply BitVec.eq_of_toNat_eq
  simp [BitVec.toNat_sub]
  omega

/-- The inverses agree. -/
theorem inv_eq (a q : EReal) (h : InRange a q) (h0 : a = 0 → q = 0) : invK q = invR a q := by
  rcases h with rfl | ⟨h1, h2⟩
  · rw [h0 rfl]
    unfold invK invR
    rw [search_zero, regular_zero, show (253#32 : BitVec 32) = BitVec.ofNat 32 253 from rfl, subi_ofNat _ _ (by norm_num) (by norm_num),
      word_ofNat _ (by norm_num) (by norm_num), expR_zero, Ideal.ofBits_zero_f32]
    rw [show (0 : EReal) - 0 = (((0 : ℤ) : ℝ) : EReal) by simp, exp2_int]
    norm_num
  · obtain ⟨r, e, rfl, e1, e2, q1, q2⟩ := exists_field q h1 h2
    have ha : a ≠ 0 := fun ha => by
      have hr := h0 ha
      rw [EReal.coe_eq_zero] at hr
      rw [hr] at q1
      exact absurd q1 (not_le.mpr (by positivity))
    unfold invK invR
    rw [search_spec r e q1 q2 (by omega), regular_ofNat e e1 (by omega), show (253#32 : BitVec 32) = BitVec.ofNat 32 253 from rfl,
      subi_ofNat _ _ (by omega) (by norm_num), word_ofNat _ (by omega) (by omega), expR_spec a ha r e q1 q2, Ideal.ofBits_zero_f32]
    rw [show (0 : EReal) - ((((e : ℤ) - 126 : ℤ) : ℝ) : EReal) = (((126 - (e : ℤ) : ℤ) : ℝ) : EReal) by
      rw [zero_sub, ← EReal.coe_neg]; congr 1; push_cast; ring, exp2_int]
    congr 2
    omega

end Cert.Quant
end
-- ==== Proof.Spec.lean ====
/- The quantiser and the scaled product as plain functions over the extended reals, which both programs are
   compared with. -/
module

public import proofs.«01_k».proof.Proof.Scale
public import Mathlib.Data.Finset.Fold

@[expose] public section

noncomputable section

namespace Cert.Quant

open Idealize.ShloMosaic

/-- Minus infinity, the maximum's start. -/
theorem ofBits_bot : Ideal.ofBits .f32 0xFF800000#32 = ⊥ := by
  show Ideal.ieee 8 23 0xFF800000#32 = _
  unfold Ideal.ieee
  have e1 : (0xFF800000#32).extractLsb' (8 + 23) 1 = 1#1 := by decide +kernel
  have e2 : ((0xFF800000#32).extractLsb' 23 8).toNat = 255 := by decide +kernel
  have e3 : ((0xFF800000#32).extractLsb' 0 23).toNat = 0 := by decide +kernel
  simp only [e1, e2, e3]
  norm_num

/-- The absolute value. -/
def mag (x : EReal) : EReal := max x (-x)

/-- A magnitude is not negative. -/
theorem mag_nonneg (x : EReal) : 0 ≤ mag x := by
  unfold mag
  rcases le_total 0 x with h | h
  · exact le_max_of_le_left h
  · exact le_max_of_le_right (EReal.neg_nonneg.mpr h)

/-- The greatest absolute value of a row. -/
def amax {n : ℕ} (v : Fin n → EReal) : EReal := Finset.univ.fold max ⊥ (fun k => mag (v k))

/-- A largest magnitude is at most c just if every magnitude is. -/
theorem amax_le {n : ℕ} (v : Fin n → EReal) (c : EReal) : amax v ≤ c ↔ ∀ k, mag (v k) ≤ c := by
  unfold amax
  rw [Finset.fold_max_le]
  simp

/-- The maximum over 448. -/
def over448 (a : EReal) : EReal := a * Ideal.ofBits .f32 0x3B124925#32

/-- Zero over 448 is zero. -/
theorem over448_zero {a : EReal} (h : a = 0) : over448 a = 0 := by unfold over448; rw [h, zero_mul]

/-- A code: the value times the inverse scale, clipped to ±448. -/
def code (v inv : EReal) : EReal :=
  min (Ideal.ofBits .f32 0x43E00000#32) (max (Ideal.ofBits .f32 0xC3E00000#32) (v * inv))

/-! ## The five results

Of activations `X` and weights `W`, for a scale `sc` and an inverse scale `inv`, each a function of the greatest
absolute value of a row of `X` or of a column of `W`. -/

section
variable (sc inv : EReal → EReal) {r n k : ℕ} (X : Fin r → Fin k → EReal) (W : Fin k → Fin n → EReal)

/-- The scale of row `i` of the activations. -/
def xScale (i : Fin r) : EReal := sc (amax (X i))
/-- The activations' codes. -/
def xCode (i : Fin r) (l : Fin k) : EReal := code (X i l) (inv (amax (X i)))
/-- The scale of column `j` of the weights. -/
def wScale (j : Fin n) : EReal := sc (amax fun l => W l j)
/-- The weights' codes. -/
def wCode (l : Fin k) (j : Fin n) : EReal := code (W l j) (inv (amax fun l => W l j))
/-- The product of the codes, scaled back. -/
def product (i : Fin r) (j : Fin n) : EReal :=
  (∑ l : Fin k, xCode inv X i l * wCode inv W l j) * xScale sc X i * wScale sc W j

end

/-- The kernel's scale and inverse as functions of the greatest absolute value. -/
def scK (a : EReal) : EReal := scaleK (over448 a)
@[inherit_doc scK] def ivK (a : EReal) : EReal := invK (over448 a)
/-- The reference's scale and inverse as functions of the greatest absolute value. -/
def scR (a : EReal) : EReal := scaleR a (over448 a)
@[inherit_doc scR] def ivR (a : EReal) : EReal := invR a (over448 a)

/-- The two scales are equal in range. -/
theorem sc_eq (a : EReal) (h : InRange a (over448 a)) : scK a = scR a := scale_eq a _ h over448_zero
/-- The two inverses are equal in range. -/
theorem iv_eq (a : EReal) (h : InRange a (over448 a)) : ivK a = ivR a := inv_eq a _ h over448_zero

section
variable {r n k : ℕ} (X : Fin r → Fin k → EReal) (W : Fin k → Fin n → EReal)

/-- A row's two scales are equal in range. -/
theorem xScale_eq (i : Fin r) (h : InRange (amax (X i)) (over448 (amax (X i)))) : xScale scK X i = xScale scR X i := sc_eq _ h
/-- An activation's two codes are equal in range. -/
theorem xCode_eq (i : Fin r) (h : InRange (amax (X i)) (over448 (amax (X i)))) (l : Fin k) : xCode ivK X i l = xCode ivR X i l := by
  unfold xCode
  rw [iv_eq _ h]
/-- A column's two scales are equal in range. -/
theorem wScale_eq (j : Fin n) (h : InRange (amax fun l => W l j) (over448 (amax fun l => W l j))) : wScale scK W j = wScale scR W j := sc_eq _ h
/-- A weight's two codes are equal in range. -/
theorem wCode_eq (j : Fin n) (h : InRange (amax fun l => W l j) (over448 (amax fun l => W l j))) (l : Fin k) : wCode ivK W l j = wCode ivR W l j := by
  unfold wCode
  rw [iv_eq _ h]
/-- The two products are equal where the row and the column are in range. -/
theorem product_eq (i : Fin r) (j : Fin n) (hx : InRange (amax (X i)) (over448 (amax (X i))))
    (hw : InRange (amax fun l => W l j) (over448 (amax fun l => W l j))) : product scK ivK X W i j = product scR ivR X W i j := by
  unfold product
  rw [xScale_eq X i hx, wScale_eq W j hw]
  congr 2
  exact Finset.sum_congr rfl fun l _ => by rw [xCode_eq X i hx, wCode_eq W j hw]

end

end Cert.Quant
end
-- ==== Proof.Range.lean ====
/- The condition on the arguments, read: every row of the activations and every column of the weights has a greatest absolute
   value that is zero, or whose quotient by 448 lies where a power of two and its inverse are both regular. -/
module

public import proofs.«01_k».proof.Pre_scales_in_range
public import proofs.«01_k».proof.Proof.Spec
public import Idealize.ShloMosaic.Lib.Pointwise
public import Idealize.ShloMosaic.Lib.IdealHost

@[expose] public section

noncomputable section

namespace Cert.Pre_scales_in_range

open Idealize.ShloMosaic Cert.Quant

/-- The side conditions the condition's operations state. -/
instance facts : Facts where
  bitsLt_bf16_f32 := by decide
  reducesTo_S80x1x5120_S80x1_d2 := by decide
  h_S_ := by decide
  reducesTo_S5120x27648_S27648_d0 := by decide
  bcast_S_S80x1 := by decide
  bcast_S_S27648 := by decide

/-- The condition on one greatest absolute value, as a bit. -/
def bit (a : EReal) : BitVec 1 :=
  IntOp.ori (Ideal.cmp .oeq a (Ideal.ofBits .f32 0x00000000#32))
    (IntOp.andi (Ideal.cmp .oge (over448 a) (Ideal.ofBits .f32 0x00800000#32)) (Ideal.cmp .olt (over448 a) (Ideal.ofBits .f32 0x7E800000#32)))

/-- If the bit of a magnitude is set, the magnitude is in range. -/
theorem inRange_of_bit {a : EReal} (h : bit a = 1#1) : InRange a (over448 a) := by
  unfold bit at h
  rw [ofBits_lower, ofBits_upper, Ideal.ofBits_zero_f32] at h
  unfold InRange
  have hb : (decide (a = 0) || (decide (((2 ^ (-126 : ℤ) : ℝ) : EReal) ≤ over448 a) && decide (over448 a < ((2 ^ (126 : ℤ) : ℝ) : EReal)))) = true := by
    revert h
    unfold Ideal.cmp IntOp.ori IntOp.andi
    generalize decide (a = 0) = p
    generalize decide (((2 ^ (-126 : ℤ) : ℝ) : EReal) ≤ over448 a) = q
    generalize decide (over448 a < ((2 ^ (126 : ℤ) : ℝ) : EReal)) = r
    show BitVec.ofBool p ||| (BitVec.ofBool q &&& BitVec.ofBool r) = 1#1 → _
    revert p q r
    decide
  by_cases h0 : a = 0
  · exact Or.inl h0
  by_cases h1 : ((2 ^ (-126 : ℤ) : ℝ) : EReal) ≤ over448 a
  · by_cases h2 : over448 a < ((2 ^ (126 : ℤ) : ℝ) : EReal)
    · exact Or.inr ⟨h1, h2⟩
    · rw [decide_eq_false h0, decide_eq_false h2, Bool.and_false] at hb
      exact absurd hb (by decide)
  · rw [decide_eq_false h0, decide_eq_false h1, Bool.false_and] at hb
    exact absurd hb (by decide)

/-- The same on a whole vector. -/
def vbit {S : Shape} (a : FVec Ideal S .f32) : IVec S 1 := fun i => bit (a i)

/-- The rows' greatest absolute values. -/
def rowMax (x : FVec Ideal S80x1x5120 .bf16) : FVec Ideal S80x1 .f32 :=
  Host.reduce FloatOps.maximumf (Host.absf (extf .f32 x facts.bitsLt_bf16_f32)) (constant S_ .f32 0xFF800000#32) facts.reducesTo_S80x1x5120_S80x1_d2 facts.h_S_
/-- The columns' greatest absolute values. -/
def colMax (w : FVec Ideal S5120x27648 .bf16) : FVec Ideal S27648 .f32 :=
  Host.reduce FloatOps.maximumf (Host.absf (extf .f32 w facts.bitsLt_bf16_f32)) (constant S_ .f32 0xFF800000#32) facts.reducesTo_S5120x27648_S27648_d0 facts.h_S_

/-- An entry of the row maxima is the largest magnitude of that row. -/
theorem rowMax_eq (x : FVec Ideal S80x1x5120 .bf16) (i : Fin 80) : rowMax x (ix2 i 0) = amax fun k : Fin 5120 => x (ix3 i 0 k) := by
  unfold amax mag
  rw [← ofBits_bot]
  pointwise [rowMax]
  rfl

/-- An entry of the column maxima is the largest magnitude of that column. -/
theorem colMax_eq (w : FVec Ideal S5120x27648 .bf16) (j : Fin 27648) : colMax w (ix1 j) = amax fun k : Fin 5120 => w (ix2 k j) := by
  unfold amax mag
  rw [← ofBits_bot]
  pointwise [colMax]
  rfl

/-- The printed comparisons, of a whole vector, are the bit at every entry. -/
theorem vbit_eq {S : Shape} (hb : S_.BroadcastsInDim S (![] : Fin 0 → Fin S.rank)) (a : FVec Ideal S .f32) :
    ori (cmpf .oeq a (broadcastInDim S ![] hb (constant S_ .f32 0x00000000#32)))
      (andi (cmpf .oge (mulf a (broadcastInDim S ![] hb (constant S_ .f32 0x3B124925#32))) (broadcastInDim S ![] hb (constant S_ .f32 0x00800000#32)))
        (cmpf .olt (mulf a (broadcastInDim S ![] hb (constant S_ .f32 0x3B124925#32))) (broadcastInDim S ![] hb (constant S_ .f32 0x7E800000#32)))) = vbit a := rfl

/-- The printed precondition is the bits of the row maxima and of the column maxima. -/
theorem fn_eq (x : FVec Ideal S80x1x5120 .bf16) (w : FVec Ideal S5120x27648 .bf16) : fn (F := Ideal) x w = (vbit (rowMax x), vbit (colMax w)) := by
  unfold fn fn_part1
  extract_lets
  exact Prod.ext (vbit_eq facts.bcast_S_S80x1 (rowMax x)) (vbit_eq facts.bcast_S_S27648 (colMax w))

/-- What the condition says of a row of the activations. -/
theorem row (x : FVec Ideal S80x1x5120 .bf16) (w : FVec Ideal S5120x27648 .bf16) (h : (fn (F := Ideal) x w).1 = fun _ => 1#1) (i : Fin 80) :
    InRange (amax fun k : Fin 5120 => x (ix3 i 0 k)) (over448 (amax fun k : Fin 5120 => x (ix3 i 0 k))) := by
  rw [fn_eq] at h
  rw [← rowMax_eq x i]
  exact inRange_of_bit (congrFun h (ix2 i 0))

/-- What the condition says of a column of the weights. -/
theorem col (x : FVec Ideal S80x1x5120 .bf16) (w : FVec Ideal S5120x27648 .bf16) (h : (fn (F := Ideal) x w).2 = fun _ => 1#1) (j : Fin 27648) :
    InRange (amax fun k : Fin 5120 => w (ix2 k j)) (over448 (amax fun k : Fin 5120 => w (ix2 k j))) := by
  rw [fn_eq] at h
  rw [← colMax_eq w j]
  exact inRange_of_bit (congrFun h (ix1 j))

end Cert.Pre_scales_in_range
end
-- ==== Proof.KernelBlock.lean ====
/- What one grid point of the kernel computes, at an index, over the extended reals. -/
module

public import proofs.«01_k».proof.Proof.KernelRun
public import proofs.«01_k».proof.Proof.Spec
public import Idealize.ShloMosaic.Lib.Pointwise
public import Idealize.ShloMosaic.Lib.IdealHost
public import Idealize.ShloMosaic.Lib.MatmulPlain

@[expose] public section

noncomputable section

namespace Cert.KernelIdeal.Hand

open Idealize.ShloMosaic Idealize.ShloMosaic.TcCoe Idealize.ShloMosaic.Tactic
open Cert.KernelIdeal Cert.KernelIdeal.Gen Cert.Quant

/-! ## Scales -/

/-- One step of the search on a whole vector. -/
def vstep {S : Shape} (v : FVec Ideal S .f32) (s : BitVec 32) (f : IVec S 32) : IVec S 32 := fun i => step (v i) s (f i)

/-- One step of the search, of a whole vector, is the step at every entry. -/
theorem vstep_eq {S : Shape} (v : FVec Ideal S .f32) (s : BitVec 32) (f : IVec S 32) :
    select (cmpf .oge v (bitcastToFloat .f32 (shli (addi f (broadcast S s)) (broadcast S 23#32)))) (addi f (broadcast S s)) f = vstep v s f := rfl

/-- The choice of a regular field on a whole vector. -/
def vregular {S : Shape} (f : IVec S 32) : IVec S 32 := fun i => regular (f i)

/-- Sending irregular fields to 126, of a whole vector, is that at every entry. -/
theorem vregular_eq {S : Shape} (f : IVec S 32) :
    select (andi (cmpi .sgt f (broadcast S 0#32)) (cmpi .slt f (broadcast S 255#32))) f (broadcast S 126#32) = vregular f := rfl

/-- The first three steps of the search for the rows' fields. -/
theorem pay3_eq (x0 : Vec Ideal S80x5120 .bf16) :
    k0_pay3 x0 = vstep (k0_pay2 x0) 32#32 (vstep (k0_pay2 x0) 64#32 (vstep (k0_pay2 x0) 128#32 (broadcast S80x1 0#32))) := by
  unfold k0_pay3
  extract_lets
  first | done | rfl

/-- The last five steps of the search for the rows' fields, and irregular fields sent to 126. -/
theorem pay6_eq (q : FVec Ideal S80x1 .f32) (f : IVec S80x1 32) :
    k0_pay6 q f (cmpf .oge q (bitcastToFloat .f32 (shli (addi f (broadcast S80x1 16#32)) (broadcast S80x1 23#32)))) (broadcast S80x1 16#32)
      = vregular (vstep q 1#32 (vstep q 2#32 (vstep q 4#32 (vstep q 8#32 (vstep q 16#32 (f)))))) := by
  unfold k0_pay6
  extract_lets
  first | done | rfl

/-- The first three steps of the search for the columns' fields. -/
theorem pay13_eq (v : FVec Ideal S16x512 .bf16) :
    k0_pay13 v = vstep (k0_pay12 v) 32#32 (vstep (k0_pay12 v) 64#32 (vstep (k0_pay12 v) 128#32 (broadcast S1x512 0#32))) := by
  unfold k0_pay13
  extract_lets
  first | done | rfl

/-- The last five steps of the search for the columns' fields. -/
theorem pay14_eq (q : FVec Ideal S1x512 .f32) (f : IVec S1x512 32) :
    k0_pay14 q f = vstep q 1#32 (vstep q 2#32 (vstep q 4#32 (vstep q 8#32 (vstep q 16#32 (f))))) := by
  unfold k0_pay14
  extract_lets
  first | done | rfl

/-- The columns' fields, irregular ones sent to 126. -/
theorem pay15_eq (f : IVec S1x512 32) : k0_pay15 f = vregular f := rfl

/-- A row's field is the search's result for that row's magnitude over 448, made regular. -/
theorem xField_eq (x0 : Vec Ideal S80x5120 .bf16) (i : S80x1.Idx) : xField x0 i = regular (search (k0_pay2 x0 i)) := by
  have h : xField x0 = vregular (vstep (k0_pay2 x0) 1#32 (vstep (k0_pay2 x0) 2#32 (vstep (k0_pay2 x0) 4#32 (vstep (k0_pay2 x0) 8#32 (vstep (k0_pay2 x0) 16#32 (vstep (k0_pay2 x0) 32#32 (vstep (k0_pay2 x0) 64#32 (vstep (k0_pay2 x0) 128#32 (broadcast S80x1 0#32))))))))) := by
    unfold xField k0_pay4 k0_pay5
    exact (pay6_eq _ _).trans (by rw [pay3_eq])
  rw [h]
  simp only [vregular, vstep, search, broadcast]

/-- A column's field is the search's result for that column's magnitude over 448, made regular. -/
theorem wField_eq (x1 : Vec Ideal S5120x512 .bf16) (i : S1x512.Idx) : k0_pay15 (wField x1) i = regular (search (k0_pay12 (maxAll x1) i)) := by
  unfold wField
  rw [pay15_eq, pay14_eq, pay13_eq]
  simp only [vregular, vstep, search, broadcast]

/-- A row's largest magnitude over 448. -/
theorem pay2_eq (x0 : Vec Ideal S80x5120 .bf16) (i : Fin 80) (u : Fin 1) :
    k0_pay2 x0 (ix2 i u) = over448 (amax fun k : Fin 5120 => x0 (ix2 i k)) := by
  unfold over448 amax mag
  rw [← ofBits_bot]
  pointwise [k0_pay2, k0_pay1]
  rfl

/-- The maxima carried after `n` trips, bounded. -/
theorem maxUpTo_le (x1 : Vec Ideal S5120x512 .bf16) (n : ℕ) (hn : n ≤ 20) (a : Fin 16) (j : Fin 512) (c : EReal) :
    maxUpTo x1 n (ix2 a j) ≤ c ↔ 0 ≤ c ∧ ∀ k : Fin 20, k.val < n → ∀ r : Fin 16, mag (rows16 x1 k r (ix2 a j)) ≤ c := by
  induction n with
  | zero =>
    have h0 : maxUpTo x1 0 (ix2 a j) = 0 := Ideal.ofBits_zero_bf16
    rw [h0]
    simp
  | succ n ih =>
    have hs : maxUpTo x1 (n + 1) (ix2 a j) = maxTrip x1 ⟨n, hn⟩ (maxUpTo x1 n) (ix2 a j) := by
      show (if h : n < 20 then maxTrip x1 ⟨n, h⟩ (maxUpTo x1 n) else maxUpTo x1 n) (ix2 a j) = _
      rw [dif_pos (show n < 20 from hn)]
    have ht : maxTrip x1 ⟨n, hn⟩ (maxUpTo x1 n) (ix2 a j) ≤ c ↔ maxUpTo x1 n (ix2 a j) ≤ c ∧ ∀ r : Fin 16, mag (rows16 x1 ⟨n, hn⟩ r (ix2 a j)) ≤ c := by
      have he : maxTrip x1 ⟨n, hn⟩ (maxUpTo x1 n) (ix2 a j) = Fin.foldl 16 (fun acc r => max acc (mag (rows16 x1 ⟨n, hn⟩ r (ix2 a j)))) (maxUpTo x1 n (ix2 a j)) := by
        simp only [Fin.foldl_succ, Fin.foldl_zero]
        rfl
      rw [he]
      simp only [Fin.foldl_succ, Fin.foldl_zero, max_le_iff, Fin.forall_fin_succ]
      simp only [and_assoc, IsEmpty.forall_iff, and_true]
    rw [hs, ht, ih (by omega), and_assoc]
    refine and_congr_right fun _ => ⟨fun h k hk r => ?_, fun h => ⟨fun k hk => h k (by omega), h ⟨n, hn⟩ (by simp)⟩⟩
    rcases Nat.lt_succ_iff_lt_or_eq.mp hk with hk | hk
    · exact h.1 k hk r
    · have : k = ⟨n, hn⟩ := Fin.ext hk
      subst this
      exact h.2 r

/-- The largest of the 16 partial maxima of a column, over 448. -/
theorem pay12_fold (m : FVec Ideal S16x512 .bf16) (u : Fin 1) (j : Fin 512) :
    k0_pay12 m (ix2 u j) = over448 (Finset.univ.fold max ⊥ (fun a : Fin 16 => m (ix2 a j))) := by
  unfold over448
  rw [← ofBits_bot]
  pointwise [k0_pay12]

/-- The sixteen partial maxima reduced are the column's greatest absolute value. -/
theorem fold_maxAll (x1 : Vec Ideal S5120x512 .bf16) (j : Fin 512) :
    Finset.univ.fold max ⊥ (fun a : Fin 16 => maxAll x1 (ix2 a j)) = amax fun k : Fin 5120 => x1 (ix2 k j) := by
  refine eq_of_forall_ge_iff fun c => ?_
  rw [amax_le, Finset.fold_max_le]
  unfold maxAll
  constructor
  · rintro ⟨-, h⟩ k
    have hk := k.isLt
    have h1 := ((maxUpTo_le x1 20 (le_refl _) ⟨k.val % 16, by omega⟩ j c).mp (h _ (Finset.mem_univ _))).2 ⟨k.val / 256, by omega⟩ (by simp; omega)
      ⟨k.val / 16 % 16, by omega⟩
    have h2 : rows16 x1 ⟨k.val / 256, by omega⟩ ⟨k.val / 16 % 16, by omega⟩ (ix2 ⟨k.val % 16, by omega⟩ j) = x1 (ix2 k j) := by
      unfold rows16
      congr 2
      apply Fin.ext
      show 256 * (k.val / 256) + 16 * (k.val / 16 % 16) + k.val % 16 = k.val
      omega
    rwa [h2] at h1
  · intro h
    refine ⟨bot_le, fun a _ => ?_⟩
    rw [maxUpTo_le x1 20 (le_refl _)]
    exact ⟨le_trans (mag_nonneg _) (h 0), fun k _ r => h _⟩

/-- A column's largest magnitude over 448. -/
theorem pay12_eq (x1 : Vec Ideal S5120x512 .bf16) (u : Fin 1) (j : Fin 512) :
    k0_pay12 (maxAll x1) (ix2 u j) = over448 (amax fun k : Fin 5120 => x1 (ix2 k j)) := by
  rw [pay12_fold, fold_maxAll]

/-- The scale of a row of `x`. -/
theorem xScales_eq (x0 : Vec Ideal S80x5120 .bf16) (i : Fin 80) (u : Fin 1) :
    xScales x0 (ix2 i u) = scaleK (over448 (amax fun k : Fin 5120 => x0 (ix2 i k))) := by
  unfold xScales scaleK word
  rw [← pay2_eq x0 i u, ← xField_eq]
  rfl

/-- The scale of a column of the weights. -/
theorem wScales_eq (x1 : Vec Ideal S5120x512 .bf16) (u : Fin 1) (j : Fin 512) :
    wScales x1 (ix2 u j) = scaleK (over448 (amax fun k : Fin 5120 => x1 (ix2 k j))) := by
  unfold wScales scaleK word
  rw [← pay12_eq x1 u j, ← wField_eq]
  rfl

/-! ## Codes -/

/-- An activation's code: the value times its row's inverse, clipped. -/
theorem pay9_eq (x0 : FVec Ideal S80x5120 .bf16) (f : IVec S80x1 32) (i : Fin 80) (k : Fin 5120) :
    k0_pay9 x0 f (ix2 i k) = code (x0 (ix2 i k)) (word (IntOp.subi 253#32 (f (ix2 i 0)))) := by
  unfold code word
  pointwise [k0_pay9]

/-- A weight's code in a chunk of 256 rows: the value times its column's inverse, clipped. -/
theorem pay17_eq (f : IVec S1x512 32) (x : Vec Ideal S256x512 .bf16) (r : Fin 256) (j : Fin 512) :
    k0_pay17 f x (ix2 r j) = code (x (ix2 r j)) (word (IntOp.subi 253#32 (k0_pay15 f (ix2 0 j)))) := by
  unfold code word
  pointwise [k0_pay17]

/-- A code of `x`. -/
theorem xCodes_eq (x0 : Vec Ideal S80x5120 .bf16) (i : Fin 80) (k : Fin 5120) :
    xCodes x0 (ix2 i k) = code (x0 (ix2 i k)) (invK (over448 (amax fun k : Fin 5120 => x0 (ix2 i k)))) := by
  unfold xCodes
  rw [pay9_eq, xField_eq, pay2_eq, k0_pay1, shapeCast_self]
  rfl

/-- A code of the weights. -/
theorem wCodes_eq (x1 : Vec Ideal S5120x512 .bf16) (k : Fin 5120) (j : Fin 512) :
    wCodes x1 (ix2 k j) = code (x1 (ix2 k j)) (invK (over448 (amax fun k : Fin 5120 => x1 (ix2 k j)))) := by
  have hk := k.isLt
  unfold wCodes codesOf
  show k0_pay17 (wField x1) (rows256 x1 ⟨k.val / 256, _⟩) (ix2 ⟨k.val % 256, _⟩ j) = _
  rw [pay17_eq, wField_eq, pay12_eq]
  have h2 : rows256 x1 ⟨k.val / 256, by omega⟩ (ix2 ⟨k.val % 256, by omega⟩ j) = x1 (ix2 k j) := by
    unfold rows256
    congr 2
    apply Fin.ext
    show 256 * (k.val / 256) + k.val % 256 = k.val
    omega
  rw [h2]
  rfl

/-! ## The product -/

/-- An entry of the product: the sum over the codes, times the two scales. -/
theorem pay18_eq (f : IVec S1x512 32) (xc : Vec Ideal S80x5120 .fp8e4m3) (wc : Vec Ideal S5120x512 .fp8e4m3) (xs : Vec Ideal S80x1 .f32)
    (i : Fin 80) (j : Fin 512) :
    k0_pay18 f xc wc xs (ix2 i j) = (∑ k : Fin 5120, xc (ix2 i k) * wc (ix2 k j)) * xs (ix2 i 0) * k0_pay16 (F := Ideal) f (ix2 0 j) := by
  pointwise [k0_pay18]

end Cert.KernelIdeal.Hand
end
-- ==== Proof.KernelArray.lean ====
/- What the kernel's five result arrays hold after the run, over the extended reals. -/
module

public import proofs.«01_k».proof.Proof.KernelBlock
public import proofs.«01_k».proof.Proof.KernelFrame
public import Idealize.ShloMosaic.Lib.Pipeline.Value
public import Idealize.ShloMosaic.Lib.StableHlo.Run

@[expose] public section

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Quant

variable (m : (ℓ : Loc nD τ sig) → Buf (Elt Ideal) ℓ) (ρ : Dev nD → PrngReg)

/-- The activations, as launched. -/
def X (c : Dev nD) (i : Fin 80) (k : Fin 5120) : EReal := (m ((c : Thread nD τ).loc main_arg0) : Vec Ideal S80x1x5120 .bf16) (ix3 i 0 k)
/-- The weights, as launched. -/
def W (c : Dev nD) (k : Fin 5120) (j : Fin 27648) : EReal := (m ((c : Thread nD τ).loc main_arg1) : Vec Ideal S5120x27648 .bf16) (ix2 k j)

/-! ## The blocks read -/

/-- The grid coordinate of a point is the point itself. -/
theorem coord (t : Fin cfg0.N) : (grid0.coords t 0).val = t.val := by
  have ht : t.val < 54 := Nat.lt_of_lt_of_eq t.isLt N_0
  have e0 : (grid0.coords t 0).val = t.val / 1 % 54 := Pipeline.Grid.coords_val t 0 (by decide) rfl
  omega

/-- There are 54 points. -/
theorem lt54 (t : Fin cfg0.N) : t.val < 54 := Nat.lt_of_lt_of_eq t.isLt N_0

/-- The coordinate as a 32-bit word has the point as its value. -/
theorem coordBits (t : Fin cfg0.N) : (BitVec.ofNat 32 (grid0.coords t 0).val).toNat = t.val := by
  have ht := lt54 t
  rw [coord, BitVec.toNat_ofNat]
  omega

/-- The block of the weights at a point is column block t. -/
theorem idx1 (t : Fin cfg0.N) : win0_1.index t 0 = 0 ∧ win0_1.index t 1 = t.val := ⟨rfl, coordBits t⟩
/-- The block of the product at a point is column block t. -/
theorem idx2 (t : Fin cfg0.N) : win0_2.index t 0 = 0 ∧ win0_2.index t 1 = t.val := ⟨rfl, coordBits t⟩
/-- The block of the weight codes at a point is column block t. -/
theorem idx5 (t : Fin cfg0.N) : win0_5.index t 0 = 0 ∧ win0_5.index t 1 = t.val := ⟨rfl, coordBits t⟩
/-- The block of the weight scales at a point is column block t. -/
theorem idx6 (t : Fin cfg0.N) : win0_6.index t 0 = 0 ∧ win0_6.index t 1 = t.val := ⟨rfl, coordBits t⟩

/-- The column of the array that column `j` of the block at point `t` is. -/
def col (t : Fin cfg0.N) (j : Fin 512) : Fin 27648 := ⟨t.val * 512 + 1 * j.val, by have := lt54 t; omega⟩

/-- A weight block's entry. -/
theorem bw_eq (c : Dev nD) (t : Fin cfg0.N) (k : Fin 5120) (j : Fin 512) : bw m c t (ix2 k j) = W m c k (col t j) := by
  unfold bw iblk W
  rw [View.read_apply]
  show V m c main_arg1 _ = _
  rw [V_main_arg1]
  congr 1
  funext a
  apply Fin.ext
  match a with
  | ⟨0, _⟩ => show win0_1.index t 0 * 5120 + 1 * k.val = k.val; rw [(idx1 t).1]; omega
  | ⟨1, _⟩ => show win0_1.index t 1 * 512 + 1 * j.val = t.val * 512 + 1 * j.val; rw [(idx1 t).2]

/-- What the region finds in the reshaped activations. -/
theorem V_main_v0 (c : Dev nD) :
    V m c main_v0 = shapeCast S80x5120 (m ((c : Thread nD τ).loc main_arg0) : Vec Ideal S80x1x5120 .bf16) shapeCasts_S80x1x5120_S80x5120 := by
  unfold V
  unfold hostOps0
  after_results
  rfl

/-- An activation block's entry. -/
theorem bx_eq (c : Dev nD) (i : Fin 80) (k : Fin 5120) : bx m c (ix2 i k) = X m c i k := by
  unfold bx iblk X
  rw [View.read_apply]
  show V m c main_v0 _ = _
  rw [V_main_v0]
  have h : (win0_0.index p0 0 = 0) ∧ (win0_0.index p0 1 = 0) := ⟨rfl, rfl⟩
  refine (congrArg (shapeCast S80x5120 (m ((c : Thread nD τ).loc main_arg0) : Vec Ideal S80x1x5120 .bf16) shapeCasts_S80x1x5120_S80x5120)
    (?_ : _ = ix2 i k)).trans ?_
  · funext a
    apply Fin.ext
    match a with
    | ⟨0, _⟩ => show win0_0.index p0 0 * 80 + 1 * i.val = i.val; rw [h.1]; omega
    | ⟨1, _⟩ => show win0_0.index p0 1 * 5120 + 1 * k.val = k.val; rw [h.2]; omega
  · refine _root_.Idealize.ShloMosaic.shapeCast_apply _ _ _ (ix3 i 0 k) ?_
    rw [Shape.rowMajor_val_three, Shape.rowMajor_val_two]
    show (i.val * 1 + 0) * 5120 + k.val = i.val * 5120 + k.val
    omega

/-- A row of the activation block is that row of the activations. -/
theorem bx_row (c : Dev nD) (i : Fin 80) : (fun k : Fin 5120 => bx m c (ix2 i k)) = X m c i := funext fun k => bx_eq m c i k
/-- A column of the weight block is that column of the weights. -/
theorem bw_col (c : Dev nD) (t : Fin cfg0.N) (j : Fin 512) : (fun k : Fin 5120 => bw m c t (ix2 k j)) = fun k => W m c k (col t j) :=
  funext fun k => bw_eq m c t k j

/-! ## The five results -/

/-- The product array. -/
def G2 (c : Dev nD) : Vec Ideal S80x27648 .bf16 := fun i => product scK ivK (X m c) (W m c) (i 0) (i 1)
/-- The activations' codes. -/
def G3 (c : Dev nD) : Vec Ideal S80x5120 .fp8e4m3 := fun i => xCode ivK (X m c) (i 0) (i 1)
/-- The activations' scales. -/
def G4 (c : Dev nD) : Vec Ideal S80x1 .f32 := fun i => xScale scK (X m c) (i 0)
/-- The weights' codes. -/
def G5 (c : Dev nD) : Vec Ideal S5120x27648 .fp8e4m3 := fun i => wCode ivK (W m c) (i 0) (i 1)
/-- The weights' scales. -/
def G6 (c : Dev nD) : Vec Ideal S1x27648 .f32 := fun i => wScale scK (W m c) (i 1)

/-! ### What each point leaves in its blocks -/

/-- An entry of the activation codes' block is the code of that activation. -/
theorem xc_at (c : Dev nD) (i : Fin 80) (k : Fin 5120) : xCodes (bx m c) (ix2 i k) = xCode ivK (X m c) i k := by
  rw [xCodes_eq, bx_row, bx_eq]
  rfl
/-- An entry of the activation scales' block is the scale of that row. -/
theorem xs_at (c : Dev nD) (i : Fin 80) (u : Fin 1) : xScales (bx m c) (ix2 i u) = xScale scK (X m c) i := by
  rw [xScales_eq, bx_row]
  rfl
/-- An entry of the weight codes' block is the code of that weight. -/
theorem wc_at (c : Dev nD) (t : Fin cfg0.N) (k : Fin 5120) (j : Fin 512) : wCodes (bw m c t) (ix2 k j) = wCode ivK (W m c) k (col t j) := by
  rw [wCodes_eq, bw_col, bw_eq]
  rfl
/-- An entry of the weight scales' block is the scale of that column. -/
theorem ws_at (c : Dev nD) (t : Fin cfg0.N) (u : Fin 1) (j : Fin 512) : wScales (bw m c t) (ix2 u j) = wScale scK (W m c) (col t j) := by
  rw [wScales_eq, bw_col]
  rfl
/-- An entry of the product's block is the scaled product of that row and column. -/
theorem y_at (c : Dev nD) (t : Fin cfg0.N) (i : Fin 80) (j : Fin 512) :
    yBlock (bw m c t) (xCodes (bx m c)) (xScales (bx m c)) (ix2 i j) = product scK ivK (X m c) (W m c) i (col t j) := by
  unfold yBlock
  rw [pay18_eq]
  have hs : k0_pay16 (F := Ideal) (wField (bw m c t)) (ix2 0 j) = wScale scK (W m c) (col t j) := ws_at m c t 0 j
  have hsum : (∑ k : Fin 5120, xCodes (bx m c) (ix2 i k) * wCodes (bw m c t) (ix2 k j))
      = ∑ k : Fin 5120, xCode ivK (X m c) i k * wCode ivK (W m c) k (col t j) :=
    Finset.sum_congr rfl fun k _ => by rw [xc_at, wc_at]
  rw [hs, xs_at, hsum]
  unfold product
  rfl

/-! ### What each point writes back -/

/-- What is written back of the product at a point is its block of the stated array. -/
theorem flushed_2 (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  funext j
  rw [View.read_apply]
  obtain ⟨a, b, rfl⟩ : ∃ (a : Fin 80) (b : Fin 512), j = ix2 a b := ⟨j 0, j 1, eq_ix2 (n0 := 80) (n1 := 512) j⟩
  refine (y_at m c t a b).trans ?_
  refine (congrArg (G2 m c) (?_ : _ = ix2 a (col t b))).symm
  funext d
  apply Fin.ext
  match d with
  | ⟨0, _⟩ => show win0_2.index t 0 * 80 + 1 * a.val = a.val; rw [(idx2 t).1]; omega
  | ⟨1, _⟩ => show win0_2.index t 1 * 512 + 1 * b.val = t.val * 512 + 1 * b.val; rw [(idx2 t).2]

/-- What is written back of the activation codes at a point is its block of the stated array. -/
theorem flushed_3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  funext j
  rw [View.read_apply]
  obtain ⟨a, b, rfl⟩ : ∃ (a : Fin 80) (b : Fin 5120), j = ix2 a b := ⟨j 0, j 1, eq_ix2 (n0 := 80) (n1 := 5120) j⟩
  refine (xc_at m c a b).trans ?_
  refine (congrArg (G3 m c) (?_ : _ = ix2 a b)).symm
  funext d
  apply Fin.ext
  match d with
  | ⟨0, _⟩ => show 0 * 80 + 1 * a.val = a.val; omega
  | ⟨1, _⟩ => show 0 * 5120 + 1 * b.val = b.val; omega

/-- What is written back of the activation scales at a point is its block of the stated array. -/
theorem flushed_4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext j
  rw [View.read_apply]
  obtain ⟨a, b, rfl⟩ : ∃ (a : Fin 80) (b : Fin 1), j = ix2 a b := ⟨j 0, j 1, eq_ix2 (n0 := 80) (n1 := 1) j⟩
  refine (xs_at m c a b).trans ?_
  refine (congrArg (G4 m c) (?_ : _ = ix2 a b)).symm
  funext d
  apply Fin.ext
  match d with
  | ⟨0, _⟩ => show 0 * 80 + 1 * a.val = a.val; omega
  | ⟨1, _⟩ => show 0 * 1 + 1 * b.val = b.val; omega

/-- What is written back of the weight codes at a point is its block of the stated array. -/
theorem flushed_5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext j
  rw [View.read_apply]
  obtain ⟨a, b, rfl⟩ : ∃ (a : Fin 5120) (b : Fin 512), j = ix2 a b := ⟨j 0, j 1, eq_ix2 (n0 := 5120) (n1 := 512) j⟩
  refine (wc_at m c t a b).trans ?_
  refine (congrArg (G5 m c) (?_ : _ = ix2 a (col t b))).symm
  funext d
  apply Fin.ext
  match d with
  | ⟨0, _⟩ => show win0_5.index t 0 * 5120 + 1 * a.val = a.val; rw [(idx5 t).1]; omega
  | ⟨1, _⟩ => show win0_5.index t 1 * 512 + 1 * b.val = t.val * 512 + 1 * b.val; rw [(idx5 t).2]

/-- What is written back of the weight scales at a point is its block of the stated array. -/
theorem flushed_6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext j
  rw [View.read_apply]
  obtain ⟨a, b, rfl⟩ : ∃ (a : Fin 1) (b : Fin 512), j = ix2 a b := ⟨j 0, j 1, eq_ix2 (n0 := 1) (n1 := 512) j⟩
  refine (ws_at m c t a b).trans ?_
  refine (congrArg (G6 m c) (?_ : _ = ix2 a (col t b))).symm
  funext d
  apply Fin.ext
  match d with
  | ⟨0, _⟩ => show win0_6.index t 0 * 1 + 1 * a.val = a.val; rw [(idx6 t).1]; omega
  | ⟨1, _⟩ => show win0_6.index t 1 * 512 + 1 * b.val = t.val * 512 + 1 * b.val; rw [(idx6 t).2]

/-! ### The arrays after the run -/

/-- The point whose column block holds column `j`. -/
def pt (j : Fin 27648) : Fin cfg0.N := ⟨j.val / 512, by rw [show cfg0.N = 54 from N_0]; omega⟩
/-- The last point. -/
def pl : Fin cfg0.N := ⟨53, by rw [show cfg0.N = 54 from N_0]; decide⟩

/-- The array of the product ends as stated. -/
theorem final_2 (c : Dev nD) : (dats m 0 c).arrAt 2 cfg0.N = G2 m c :=
  (dats m 0 c).arrAt_eq_of_cover 2 (G2 m c) (fun t _ => flushed_2 m c t) fun i =>
    ⟨pt (i 1), flush0_2 _, by
      show i ∈ ((View.whole main_v1_0).slice (win0_2.rect (pt (i 1)))).set
      rw [View.set_slice_whole, Rect.mem_set_unit]
      intro a
      have h0 : (i 0 : Nat) < 80 := (i 0).isLt
      have h1 : (i 1 : Nat) < 27648 := (i 1).isLt
      match a with
      | ⟨0, _⟩ => show win0_2.index (pt (i 1)) 0 * 80 ≤ (i 0 : Nat) ∧ (i 0 : Nat) < win0_2.index (pt (i 1)) 0 * 80 + 80
                  rw [(idx2 _).1]; omega
      | ⟨1, _⟩ => show win0_2.index (pt (i 1)) 1 * 512 ≤ (i 1 : Nat) ∧ (i 1 : Nat) < win0_2.index (pt (i 1)) 1 * 512 + 512
                  rw [(idx2 _).2, show (pt (i 1)).val = (i 1 : Nat) / 512 from rfl]; omega⟩

/-- The array of the weight codes ends as stated. -/
theorem final_5 (c : Dev nD) : (dats m 0 c).arrAt 5 cfg0.N = G5 m c :=
  (dats m 0 c).arrAt_eq_of_cover 5 (G5 m c) (fun t _ => flushed_5 m c t) fun i =>
    ⟨pt (i 1), flush0_5 _, by
      show i ∈ ((View.whole main_v1_3).slice (win0_5.rect (pt (i 1)))).set
      rw [View.set_slice_whole, Rect.mem_set_unit]
      intro a
      have h0 : (i 0 : Nat) < 5120 := (i 0).isLt
      have h1 : (i 1 : Nat) < 27648 := (i 1).isLt
      match a with
      | ⟨0, _⟩ => show win0_5.index (pt (i 1)) 0 * 5120 ≤ (i 0 : Nat) ∧ (i 0 : Nat) < win0_5.index (pt (i 1)) 0 * 5120 + 5120
                  rw [(idx5 _).1]; omega
      | ⟨1, _⟩ => show win0_5.index (pt (i 1)) 1 * 512 ≤ (i 1 : Nat) ∧ (i 1 : Nat) < win0_5.index (pt (i 1)) 1 * 512 + 512
                  rw [(idx5 _).2, show (pt (i 1)).val = (i 1 : Nat) / 512 from rfl]; omega⟩

/-- The array of the weight scales ends as stated. -/
theorem final_6 (c : Dev nD) : (dats m 0 c).arrAt 6 cfg0.N = G6 m c :=
  (dats m 0 c).arrAt_eq_of_cover 6 (G6 m c) (fun t _ => flushed_6 m c t) fun i =>
    ⟨pt (i 1), flush0_6 _, by
      show i ∈ ((View.whole main_v1_4).slice (win0_6.rect (pt (i 1)))).set
      rw [View.set_slice_whole, Rect.mem_set_unit]
      intro a
      have h0 : (i 0 : Nat) < 1 := (i 0).isLt
      have h1 : (i 1 : Nat) < 27648 := (i 1).isLt
      match a with
      | ⟨0, _⟩ => show win0_6.index (pt (i 1)) 0 * 1 ≤ (i 0 : Nat) ∧ (i 0 : Nat) < win0_6.index (pt (i 1)) 0 * 1 + 1
                  rw [(idx6 _).1]; omega
      | ⟨1, _⟩ => show win0_6.index (pt (i 1)) 1 * 512 ≤ (i 1 : Nat) ∧ (i 1 : Nat) < win0_6.index (pt (i 1)) 1 * 512 + 512
                  rw [(idx6 _).2, show (pt (i 1)).val = (i 1 : Nat) / 512 from rfl]; omega⟩

/-- The array of the activation codes ends as stated. -/
theorem final_3 (c : Dev nD) : (dats m 0 c).arrAt 3 cfg0.N = G3 m c :=
  (dats m 0 c).arrAt_eq_of_cover 3 (G3 m c) (fun t _ => flushed_3 m c t) fun i =>
    ⟨pl, (flush0_3 pl).mpr rfl, by
      show i ∈ ((View.whole main_v1_1).slice (win0_3.rect pl)).set
      rw [View.set_slice_whole, Rect.mem_set_unit]
      intro a
      have h0 : (i 0 : Nat) < 80 := (i 0).isLt
      have h1 : (i 1 : Nat) < 5120 := (i 1).isLt
      match a with
      | ⟨0, _⟩ => show 0 * 80 ≤ (i 0 : Nat) ∧ (i 0 : Nat) < 0 * 80 + 80; omega
      | ⟨1, _⟩ => show 0 * 5120 ≤ (i 1 : Nat) ∧ (i 1 : Nat) < 0 * 5120 + 5120; omega⟩

/-- The array of the activation scales ends as stated. -/
theorem final_4 (c : Dev nD) : (dats m 0 c).arrAt 4 cfg0.N = G4 m c :=
  (dats m 0 c).arrAt_eq_of_cover 4 (G4 m c) (fun t _ => flushed_4 m c t) fun i =>
    ⟨pl, (flush0_4 pl).mpr rfl, by
      show i ∈ ((View.whole main_v1_2).slice (win0_4.rect pl)).set
      rw [View.set_slice_whole, Rect.mem_set_unit]
      intro a
      have h0 : (i 0 : Nat) < 80 := (i 0).isLt
      have h1 : (i 1 : Nat) < 1 := (i 1).isLt
      match a with
      | ⟨0, _⟩ => show 0 * 80 ≤ (i 0 : Nat) ∧ (i 0 : Nat) < 0 * 80 + 80; omega
      | ⟨1, _⟩ => show 0 * 1 ≤ (i 1 : Nat) ∧ (i 1 : Nat) < 0 * 1 + 1; omega⟩

/-- The run, read: every result array at its value, the arguments unchanged. -/
theorem run : θ_run defs (onTc (τ := τ) (main (F := Ideal))) ⟨m, fun _ => 0, ρ⟩ fun r => ∀ c : Dev nD,
      r.2.mem ((c : Thread nD τ).loc main_v1_0) = G2 m c
      ∧ r.2.mem ((c : Thread nD τ).loc main_v1_1) = G3 m c
      ∧ r.2.mem ((c : Thread nD τ).loc main_v1_2) = G4 m c
      ∧ r.2.mem ((c : Thread nD τ).loc main_v1_3) = G5 m c
      ∧ r.2.mem ((c : Thread nD τ).loc main_v1_4) = G6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_2 m c), ((h c).1 3).trans (final_3 m c), ((h c).1 4).trans (final_4 m c),
      ((h c).1 5).trans (final_5 m c), ((h c).1 6).trans (final_6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Hand
end
-- ==== Proof.RefBlock.lean ====
/- What the reference's body computes, at an index, over the extended reals. -/
module

public import proofs.«01_k».proof.Proof.Gen.ReferenceIdeal.Frame
public import proofs.«01_k».proof.Proof.Spec
public import Idealize.ShloMosaic.Lib.Pointwise
public import Idealize.ShloMosaic.Lib.IdealHost
public import Idealize.ShloMosaic.Lib.MatmulPlain

@[expose] public section

noncomputable section

namespace Cert.ReferenceIdeal.Hand

open Idealize.ShloMosaic Idealize.ShloMosaic.TcCoe Idealize.SL.Sem
open Cert.ReferenceIdeal Cert.ReferenceIdeal.Gen Cert.Quant

/-- A row's exponent. -/
theorem pay6_eq (x : Vec Ideal S80x5120 .bf16) (i : Fin 80) (u : Fin 1) :
    k0_pay6 x (ix2 i u) = expR (amax fun k : Fin 5120 => x (ix2 i k)) (over448 (amax fun k : Fin 5120 => x (ix2 i k))) := by
  unfold expR over448 amax mag
  rw [← ofBits_bot]
  pointwise [k0_pay6, k0_pay5]
  rfl

/-- A column's greatest absolute value. -/
theorem pay10_eq (w : Vec Ideal S5120x27648 .bf16) (u : Fin 1) (j : Fin 27648) :
    k0_pay10 w (ix2 u j) = amax fun k : Fin 5120 => w (ix2 k j) := by
  unfold amax mag
  rw [← ofBits_bot]
  pointwise [k0_pay10, k0_pay9]
  rfl

/-! ## The same steps on whole vectors -/

/-- The exponent of each entry. -/
def vexp {S : Shape} (a : FVec Ideal S .f32) : FVec Ideal S .f32 := fun i => expR (a i) (over448 (a i))

/-- The exponents of a whole vector are the exponent at every entry. -/
theorem vexp_eq {S : Shape} (a : FVec Ideal S .f32) :
    select (cmpf .oeq a (broadcast S (Scalar.ofBits .f32 0x00000000#32))) (broadcast S (Scalar.ofBits .f32 0x00000000#32))
      (addf (floor (divf (log (mulf a (broadcast S (Scalar.ofBits .f32 0x3B124925#32)))) (log (broadcast S (Scalar.ofBits .f32 0x40000000#32)))))
        (broadcast S (Scalar.ofBits .f32 0x3F800000#32))) = vexp a := rfl

/-- The exponents of the weights' columns. -/
theorem pay1_vec (w : Vec Ideal S5120x27648 .bf16) : k0_pay1 (k0_pay10 w) (k0_pay11 w) (k0_pay12 (F := Ideal)) = vexp (k0_pay10 w) := by
  unfold k0_pay1 k0_pay11 k0_pay12
  generalize k0_pay10 w = a
  exact vexp_eq a

/-- Two to the power of each entry. -/
def vpow {S : Shape} (e : FVec Ideal S .f32) : FVec Ideal S .f32 := fun i => Ideal.exp2 (e i)

/-- The powers of two of a whole vector. -/
theorem vpow_eq {S : Shape} (e : FVec Ideal S .f32) : exp2 e = vpow e := rfl

/-- Two to the power of minus each entry. -/
def vpowNeg {S : Shape} (e : FVec Ideal S .f32) : FVec Ideal S .f32 := fun i => Ideal.exp2 (Ideal.ofBits .f32 0x00000000#32 - e i)

/-- The powers of two with the sign of the exponent turned, of a whole vector. -/
theorem vpowNeg_eq {S : Shape} (e : FVec Ideal S .f32) :
    exp2 (subf (broadcast S (Scalar.ofBits .f32 0x00000000#32)) e) = vpowNeg e := rfl

/-- The codes of `v` for an inverse scale of the same shape. -/
def vcode {S : Shape} (v inv : FVec Ideal S .f32) : FVec Ideal S .fp8e4m3 := fun i => code (v i) (inv i)

/-- The codes of a whole vector: value times inverse, clipped, at every entry. -/
theorem vcode_eq {S : Shape} (v inv : FVec Ideal S .f32) :
    truncf .fp8e4m3 (minimumf (broadcast S (Scalar.ofBits .f32 0x43E00000#32)) (maximumf (broadcast S (Scalar.ofBits .f32 0xC3E00000#32)) (mulf v inv)))
      bitsLt_fp8e4m3_f32 = vcode v inv := rfl

/-- A vector with one entry per row, spread over the columns. -/
theorem row_bcast (v : FVec Ideal S80x1 .f32) (i : Fin 80) (k : Fin 5120) :
    broadcastTo S80x5120 v broadcasts_S80x1_S80x5120 (ix2 i k) = v (ix2 i 0) := by pointwise []

/-- A vector with one entry per column, spread over the rows. -/
theorem col_bcast (v : FVec Ideal S1x27648 .f32) (k : Fin 5120) (j : Fin 27648) :
    broadcastTo S5120x27648 v broadcasts_S1x27648_S5120x27648 (ix2 k j) = v (ix2 0 j) := by pointwise []

/-! ## The reference's results -/

/-- A column's exponent. -/
theorem pay1_eq (w : Vec Ideal S5120x27648 .bf16) (u : Fin 1) (j : Fin 27648) :
    k0_pay1 (k0_pay10 w) (k0_pay11 w) (k0_pay12 (F := Ideal)) (ix2 u j)
      = expR (amax fun k : Fin 5120 => w (ix2 k j)) (over448 (amax fun k : Fin 5120 => w (ix2 k j))) := by
  rw [pay1_vec, vexp, pay10_eq]

/-- A row's scale. -/
theorem pay7_eq (x : Vec Ideal S80x5120 .bf16) (i : Fin 80) (u : Fin 1) :
    k0_pay7 x (ix2 i u) = xScale scR (fun i k => x (ix2 i k)) i := by
  unfold xScale scR scaleR
  rw [← pay6_eq x i u]
  unfold k0_pay7
  generalize k0_pay6 x = e
  exact congrFun (vpow_eq e) _

/-- The activation codes as codes of a whole array. -/
theorem pay8_vec (x : Vec Ideal S80x5120 .bf16) :
    k0_pay8 x = vcode (k0_pay5 x) (broadcastTo S80x5120 (vpowNeg (k0_pay6 x)) broadcasts_S80x1_S80x5120) := by
  unfold k0_pay8
  generalize k0_pay6 x = e
  generalize k0_pay5 x = v
  exact (vcode_eq v _).trans (congrArg (fun z => vcode v (broadcastTo S80x5120 z broadcasts_S80x1_S80x5120)) (vpowNeg_eq e))

/-- A code of the activations. -/
theorem pay8_eq (x : Vec Ideal S80x5120 .bf16) (i : Fin 80) (k : Fin 5120) :
    k0_pay8 x (ix2 i k) = xCode ivR (fun i k => x (ix2 i k)) i k := by
  have h5 : k0_pay5 x (ix2 i k) = x (ix2 i k) := by pointwise [k0_pay5]
  unfold xCode ivR invR
  rw [pay8_vec, vcode, row_bcast, vpowNeg, pay6_eq, h5]

/-- A column's scale. -/
theorem pay2_eq (w : Vec Ideal S5120x27648 .bf16) (u : Fin 1) (j : Fin 27648) :
    k0_pay2 (k0_pay10 w) (k0_pay11 w) (k0_pay12 (F := Ideal)) (ix2 u j) = wScale scR (fun k j => w (ix2 k j)) j := by
  unfold wScale scR scaleR
  rw [← pay1_eq w u j]
  unfold k0_pay2
  generalize k0_pay1 (k0_pay10 w) (k0_pay11 w) (k0_pay12 (F := Ideal)) = e
  exact congrFun (vpow_eq e) _

/-- The weight codes as codes of a whole array. -/
theorem pay3_vec (v : FVec Ideal S5120x27648 .f32) (a b c : FVec Ideal S1x27648 .f32) :
    k0_pay3 v a b c = vcode v (broadcastTo S5120x27648 (vpowNeg (k0_pay1 a b c)) broadcasts_S1x27648_S5120x27648) := by
  unfold k0_pay3
  generalize k0_pay1 a b c = e
  exact (vcode_eq v _).trans (congrArg (fun z => vcode v (broadcastTo S5120x27648 z broadcasts_S1x27648_S5120x27648)) (vpowNeg_eq e))

/-- The change of format of the weights is the identity. -/
theorem pay9_eq (w : Vec Ideal S5120x27648 .bf16) (i : S5120x27648.Idx) : k0_pay9 w i = w i := rfl

/-- A code of the weights. -/
theorem pay3_eq (w : Vec Ideal S5120x27648 .bf16) (k : Fin 5120) (j : Fin 27648) :
    k0_pay3 (k0_pay9 w) (k0_pay10 w) (k0_pay11 w) (k0_pay12 (F := Ideal)) (ix2 k j) = wCode ivR (fun k j => w (ix2 k j)) k j := by
  unfold wCode ivR invR
  rw [pay3_vec, vcode, col_bcast, vpowNeg, pay1_eq, pay9_eq]

/-- The product from the codes and the scales. -/
theorem pay4_vec (xs : FVec Ideal S80x1 .f32) (xc : FVec Ideal S80x5120 .fp8e4m3) (v : FVec Ideal S5120x27648 .f32) (a b c : FVec Ideal S1x27648 .f32)
    (i : Fin 80) (j : Fin 27648) :
    k0_pay4 xs xc v a b c (ix2 i j) = (∑ l : Fin 5120, xc (ix2 i l) * k0_pay3 v a b c (ix2 l j)) * xs (ix2 i 0) * k0_pay2 a b c (ix2 0 j) := by
  unfold k0_pay4
  generalize k0_pay3 v a b c = wc
  generalize k0_pay2 a b c = ws
  pointwise []

/-- An entry of the product. -/
theorem pay4_eq (x : Vec Ideal S80x5120 .bf16) (w : Vec Ideal S5120x27648 .bf16) (i : Fin 80) (j : Fin 27648) :
    k0_pay4 (k0_pay7 x) (k0_pay8 x) (k0_pay9 w) (k0_pay10 w) (k0_pay11 w) (k0_pay12 (F := Ideal)) (ix2 i j)
      = product scR ivR (fun i k => x (ix2 i k)) (fun k j => w (ix2 k j)) i j := by
  have hsum : (∑ l : Fin 5120, k0_pay8 x (ix2 i l) * k0_pay3 (k0_pay9 w) (k0_pay10 w) (k0_pay11 w) (k0_pay12 (F := Ideal)) (ix2 l j))
      = ∑ l : Fin 5120, xCode ivR (fun i k => x (ix2 i k)) i l * wCode ivR (fun k j => w (ix2 k j)) l j :=
    Finset.sum_congr rfl fun l _ => by rw [pay8_eq, pay3_eq]
  rw [pay4_vec, hsum, pay7_eq, pay2_eq]
  unfold product
  rfl

end Cert.ReferenceIdeal.Hand
end
-- ==== Proof.RefArray.lean ====
/- What the reference's five result arrays hold after the run, over the extended reals. -/
module

public import proofs.«01_k».proof.Proof.RefBlock
public import Idealize.ShloMosaic.Lib.Pipeline.Value
public import Idealize.ShloMosaic.Lib.StableHlo.Run

@[expose] public section

noncomputable section

namespace Cert.ReferenceIdeal.Hand

open Idealize.ShloMosaic Idealize.ShloMosaic.TcCoe Idealize.SL.Sem
open Idealize.ShloMosaic.Pipeline (Dat)
open Cert.ReferenceIdeal Cert.ReferenceIdeal.Gen Cert.Quant

variable (m : (ℓ : Loc nD τ sig) → Buf (Elt Ideal) ℓ) (ρ : Dev nD → PrngReg)

/-- The activations, as launched. -/
def X (c : Dev nD) (i : Fin 80) (k : Fin 5120) : EReal := (m ((c : Thread nD τ).loc main_arg0) : Vec Ideal S80x1x5120 .bf16) (ix3 i 0 k)
/-- The weights, as launched. -/
def W (c : Dev nD) (k : Fin 5120) (j : Fin 27648) : EReal := (m ((c : Thread nD τ).loc main_arg1) : Vec Ideal S5120x27648 .bf16) (ix2 k j)

/-! ## The blocks read -/

/-- The one point. -/
def pt : Fin cfg0.N := ⟨0, by rw [show cfg0.N = 1 from N_0]; decide⟩

/-- What the region finds in the reshaped activations. -/
theorem V_main_v0 (c : Dev nD) :
    V m c main_v0 = shapeCast S80x5120 (m ((c : Thread nD τ).loc main_arg0) : Vec Ideal S80x1x5120 .bf16) shapeCasts_S80x1x5120_S80x5120 := by
  unfold V
  unfold hostOps0
  after_results
  rfl

/-- An activation block's entry. -/
theorem bx_eq (c : Dev nD) (t : Fin cfg0.N) (i : Fin 80) (k : Fin 5120) : iblk m c 0 t (ix2 i k) = X m c i k := by
  unfold iblk X
  rw [View.read_apply]
  show V m c main_v0 _ = _
  rw [V_main_v0]
  refine (congrArg (shapeCast S80x5120 (m ((c : Thread nD τ).loc main_arg0) : Vec Ideal S80x1x5120 .bf16) shapeCasts_S80x1x5120_S80x5120)
    (?_ : _ = ix2 i k)).trans ?_
  · funext a
    apply Fin.ext
    match a with
    | ⟨0, _⟩ => show 0 * 80 + 1 * i.val = i.val; omega
    | ⟨1, _⟩ => show 0 * 5120 + 1 * k.val = k.val; omega
  · refine _root_.Idealize.ShloMosaic.shapeCast_apply _ _ _ (ix3 i 0 k) ?_
    rw [Shape.rowMajor_val_three, Shape.rowMajor_val_two]
    show (i.val * 1 + 0) * 5120 + k.val = i.val * 5120 + k.val
    omega

/-- A weight block's entry. -/
theorem bw_eq (c : Dev nD) (t : Fin cfg0.N) (k : Fin 5120) (j : Fin 27648) : iblk m c 1 t (ix2 k j) = W m c k j := by
  unfold iblk W
  rw [View.read_apply]
  show V m c main_arg1 _ = _
  rw [V_main_arg1]
  refine congrArg (m ((c : Thread nD τ).loc main_arg1)) (?_ : _ = ix2 k j)
  funext a
  apply Fin.ext
  match a with
  | ⟨0, _⟩ => show 0 * 5120 + 1 * k.val = k.val; omega
  | ⟨1, _⟩ => show 0 * 27648 + 1 * j.val = j.val; omega

/-- The block of the activations is the whole array. -/
theorem bx_fun (c : Dev nD) (t : Fin cfg0.N) : (fun (i : Fin 80) (k : Fin 5120) => (iblk m c 0 t : Vec Ideal S80x5120 .bf16) (ix2 i k)) = X m c :=
  funext fun i => funext fun k => bx_eq m c t i k
/-- The block of the weights is the whole array. -/
theorem bw_fun (c : Dev nD) (t : Fin cfg0.N) : (fun (k : Fin 5120) (j : Fin 27648) => (iblk m c 1 t : Vec Ideal S5120x27648 .bf16) (ix2 k j)) = W m c :=
  funext fun k => funext fun j => bw_eq m c t k j

/-! ## What the body stores, as the payloads of the blocks -/

/-- The offsets zero, zero. -/
theorem zeros2 : (![0, 0] : Fin 2 → Nat) = fun _ => 0 := by decide

/-- What the body leaves in the block of the product. -/
theorem out_2 (x : Vec Ideal S80x5120 .bf16) (w : Vec Ideal S5120x27648 .bf16) :
    out0_2 x w = k0_pay4 (k0_pay7 x) (k0_pay8 x) (k0_pay9 w) (k0_pay10 w) (k0_pay11 w) (k0_pay12 (F := Ideal)) := by
  unfold_out out0_2
  rw [show View.ld x r0_0 = x from View.ld_unit_zero zeros2 _ x, show View.ld w r0_1 = w from View.ld_unit_zero zeros2 _ w]
  exact View.canon_unit_zero zeros2 _ _

/-- What the body leaves in the block of the activation codes. -/
theorem out_3 (x : Vec Ideal S80x5120 .bf16) (w : Vec Ideal S5120x27648 .bf16) : out0_3 x w = k0_pay8 x := by
  unfold_out out0_3
  rw [show View.ld x r0_0 = x from View.ld_unit_zero zeros2 _ x]
  exact View.canon_unit_zero zeros2 _ _

/-- What the body leaves in the block of the activation scales. -/
theorem out_4 (x : Vec Ideal S80x5120 .bf16) (w : Vec Ideal S5120x27648 .bf16) : out0_4 x w = k0_pay7 x := by
  unfold_out out0_4
  rw [show View.ld x r0_0 = x from View.ld_unit_zero zeros2 _ x]
  exact View.canon_unit_zero zeros2 _ _

/-- What the body leaves in the block of the weight codes. -/
theorem out_5 (x : Vec Ideal S80x5120 .bf16) (w : Vec Ideal S5120x27648 .bf16) :
    out0_5 x w = k0_pay3 (k0_pay9 w) (k0_pay10 w) (k0_pay11 w) (k0_pay12 (F := Ideal)) := by
  unfold_out out0_5
  rw [show View.ld w r0_1 = w from View.ld_unit_zero zeros2 _ w]
  exact View.canon_unit_zero zeros2 _ _

/-- What the body leaves in the block of the weight scales. -/
theorem out_6 (x : Vec Ideal S80x5120 .bf16) (w : Vec Ideal S5120x27648 .bf16) :
    out0_6 x w = k0_pay2 (k0_pay10 w) (k0_pay11 w) (k0_pay12 (F := Ideal)) := by
  unfold_out out0_6
  rw [show View.ld w r0_1 = w from View.ld_unit_zero zeros2 _ w]
  exact View.canon_unit_zero zeros2 _ _

/-! ## The five results -/

/-- The product array. -/
def G2 (c : Dev nD) : Vec Ideal S80x27648 .bf16 := fun i => product scR ivR (X m c) (W m c) (i 0) (i 1)
/-- The activations' codes. -/
def G3 (c : Dev nD) : Vec Ideal S80x5120 .fp8e4m3 := fun i => xCode ivR (X m c) (i 0) (i 1)
/-- The activations' scales. -/
def G4 (c : Dev nD) : Vec Ideal S80x1 .f32 := fun i => xScale scR (X m c) (i 0)
/-- The weights' codes. -/
def G5 (c : Dev nD) : Vec Ideal S5120x27648 .fp8e4m3 := fun i => wCode ivR (W m c) (i 0) (i 1)
/-- The weights' scales. -/
def G6 (c : Dev nD) : Vec Ideal S1x27648 .f32 := fun i => wScale scR (W m c) (i 1)

/-- An entry of the activation scales is the scale of that row. -/
theorem G4_at (c : Dev nD) (a : Fin 80) (b : Fin 1) : G4 m c (ix2 a b) = xScale scR (X m c) a := by
  unfold G4
  generalize xScale scR (X m c) = f
  rfl
/-- An entry of the weight scales is the scale of that column. -/
theorem G6_at (c : Dev nD) (a : Fin 1) (b : Fin 27648) : G6 m c (ix2 a b) = wScale scR (W m c) b := by
  unfold G6
  generalize wScale scR (W m c) = f
  rfl

/-! ### What the body leaves in its blocks -/

/-- An entry the body stores as activation codes is the code of that activation. -/
theorem xc_at (c : Dev nD) (t : Fin cfg0.N) (i : Fin 80) (k : Fin 5120) : k0_pay8 (iblk m c 0 t) (ix2 i k) = xCode ivR (X m c) i k := by
  rw [← bx_fun m c t]
  exact pay8_eq _ i k
/-- An entry the body stores as activation scales is the scale of that row. -/
theorem xs_at (c : Dev nD) (t : Fin cfg0.N) (i : Fin 80) (u : Fin 1) : k0_pay7 (iblk m c 0 t) (ix2 i u) = xScale scR (X m c) i := by
  rw [← bx_fun m c t]
  exact pay7_eq _ i u
/-- An entry the body stores as weight codes is the code of that weight. -/
theorem wc_at (c : Dev nD) (t : Fin cfg0.N) (k : Fin 5120) (j : Fin 27648) :
    k0_pay3 (k0_pay9 (iblk m c 1 t)) (k0_pay10 (iblk m c 1 t)) (k0_pay11 (iblk m c 1 t)) (k0_pay12 (F := Ideal)) (ix2 k j) = wCode ivR (W m c) k j := by
  rw [← bw_fun m c t]
  exact pay3_eq _ k j
/-- An entry the body stores as weight scales is the scale of that column. -/
theorem ws_at (c : Dev nD) (t : Fin cfg0.N) (u : Fin 1) (j : Fin 27648) :
    k0_pay2 (k0_pay10 (iblk m c 1 t)) (k0_pay11 (iblk m c 1 t)) (k0_pay12 (F := Ideal)) (ix2 u j) = wScale scR (W m c) j := by
  rw [← bw_fun m c t]
  exact pay2_eq _ u j
/-- An entry the body stores as the product is the scaled product of that row and column. -/
theorem y_at (c : Dev nD) (t : Fin cfg0.N) (i : Fin 80) (j : Fin 27648) :
    k0_pay4 (k0_pay7 (iblk m c 0 t)) (k0_pay8 (iblk m c 0 t)) (k0_pay9 (iblk m c 1 t)) (k0_pay10 (iblk m c 1 t)) (k0_pay11 (iblk m c 1 t))
      (k0_pay12 (F := Ideal)) (ix2 i j) = product scR ivR (X m c) (W m c) i j := by
  rw [← bx_fun m c t, ← bw_fun m c t]
  exact pay4_eq _ _ i j

/-! ### The arrays after the run -/

/-- What is written back of the product at a point is its block of the stated array. -/
theorem flushed_2 (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, out_2]
  funext j
  rw [View.read_apply]
  obtain ⟨a, b, rfl⟩ : ∃ (a : Fin 80) (b : Fin 27648), j = ix2 a b := ⟨j 0, j 1, eq_ix2 (n0 := 80) (n1 := 27648) j⟩
  refine (y_at m c t a b).trans ?_
  refine (congrArg (G2 m c) (?_ : _ = ix2 a b)).symm
  funext d
  apply Fin.ext
  match d with
  | ⟨0, _⟩ => show 0 * 80 + 1 * a.val = a.val; omega
  | ⟨1, _⟩ => show 0 * 27648 + 1 * b.val = b.val; omega

/-- The array of the product ends as stated. -/
theorem final_2 (c : Dev nD) : (dats m 0 c).arrAt 2 cfg0.N = G2 m c :=
  (dats m 0 c).arrAt_eq_of_cover 2 (G2 m c) (fun t _ => flushed_2 m c t) fun i =>
    ⟨pt, flush0_2 _, by
      show i ∈ ((View.whole main_v1_0).slice (win0_2.rect pt)).set
      rw [View.set_slice_whole, Rect.mem_set_unit]
      intro a
      have h0 : (i 0 : Nat) < 80 := (i 0).isLt
      have h1 : (i 1 : Nat) < 27648 := (i 1).isLt
      match a with
      | ⟨0, _⟩ => show 0 * 80 ≤ (i 0 : Nat) ∧ (i 0 : Nat) < 0 * 80 + 80; omega
      | ⟨1, _⟩ => show 0 * 27648 ≤ (i 1 : Nat) ∧ (i 1 : Nat) < 0 * 27648 + 27648; omega⟩

/-- What is written back of the activation codes at a point is its block of the stated array. -/
theorem flushed_3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, out_3]
  funext j
  rw [View.read_apply]
  obtain ⟨a, b, rfl⟩ : ∃ (a : Fin 80) (b : Fin 5120), j = ix2 a b := ⟨j 0, j 1, eq_ix2 (n0 := 80) (n1 := 5120) j⟩
  refine (xc_at m c t a b).trans ?_
  refine (congrArg (G3 m c) (?_ : _ = ix2 a b)).symm
  funext d
  apply Fin.ext
  match d with
  | ⟨0, _⟩ => show 0 * 80 + 1 * a.val = a.val; omega
  | ⟨1, _⟩ => show 0 * 5120 + 1 * b.val = b.val; omega

/-- The array of the activation codes ends as stated. -/
theorem final_3 (c : Dev nD) : (dats m 0 c).arrAt 3 cfg0.N = G3 m c :=
  (dats m 0 c).arrAt_eq_of_cover 3 (G3 m c) (fun t _ => flushed_3 m c t) fun i =>
    ⟨pt, flush0_3 _, by
      show i ∈ ((View.whole main_v1_1).slice (win0_3.rect pt)).set
      rw [View.set_slice_whole, Rect.mem_set_unit]
      intro a
      have h0 : (i 0 : Nat) < 80 := (i 0).isLt
      have h1 : (i 1 : Nat) < 5120 := (i 1).isLt
      match a with
      | ⟨0, _⟩ => show 0 * 80 ≤ (i 0 : Nat) ∧ (i 0 : Nat) < 0 * 80 + 80; omega
      | ⟨1, _⟩ => show 0 * 5120 ≤ (i 1 : Nat) ∧ (i 1 : Nat) < 0 * 5120 + 5120; omega⟩

/-- What is written back of the activation scales at a point is its block of the stated array. -/
theorem flushed_4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, out_4]
  have key : ∀ (a : Fin 80) (b : Fin 1), k0_pay7 (iblk m c 0 t) (ix2 a b) = G4 m c (ix2 a b) :=
    fun a b => (xs_at m c t a b).trans (G4_at m c a b).symm
  generalize k0_pay7 (iblk m c 0 t) = p at key ⊢
  generalize G4 m c = g at key ⊢
  funext j
  rw [View.read_apply]
  obtain ⟨a, b, rfl⟩ : ∃ (a : Fin 80) (b : Fin 1), j = ix2 a b := ⟨j 0, j 1, eq_ix2 (n0 := 80) (n1 := 1) j⟩
  refine (key a b).trans ?_
  refine (congrArg g (?_ : _ = ix2 a b)).symm
  funext d
  apply Fin.ext
  match d with
  | ⟨0, _⟩ => show 0 * 80 + 1 * a.val = a.val; omega
  | ⟨1, _⟩ => show 0 * 1 + 1 * b.val = b.val; omega

/-- The array of the activation scales ends as stated. -/
theorem final_4 (c : Dev nD) : (dats m 0 c).arrAt 4 cfg0.N = G4 m c :=
  (dats m 0 c).arrAt_eq_of_cover 4 (G4 m c) (fun t _ => flushed_4 m c t) fun i =>
    ⟨pt, flush0_4 _, by
      show i ∈ ((View.whole main_v1_2).slice (win0_4.rect pt)).set
      rw [View.set_slice_whole, Rect.mem_set_unit]
      intro a
      have h0 : (i 0 : Nat) < 80 := (i 0).isLt
      have h1 : (i 1 : Nat) < 1 := (i 1).isLt
      match a with
      | ⟨0, _⟩ => show 0 * 80 ≤ (i 0 : Nat) ∧ (i 0 : Nat) < 0 * 80 + 80; omega
      | ⟨1, _⟩ => show 0 * 1 ≤ (i 1 : Nat) ∧ (i 1 : Nat) < 0 * 1 + 1; omega⟩

/-- What is written back of the weight codes at a point is its block of the stated array. -/
theorem flushed_5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5, out_5]
  funext j
  rw [View.read_apply]
  obtain ⟨a, b, rfl⟩ : ∃ (a : Fin 5120) (b : Fin 27648), j = ix2 a b := ⟨j 0, j 1, eq_ix2 (n0 := 5120) (n1 := 27648) j⟩
  refine (wc_at m c t a b).trans ?_
  refine (congrArg (G5 m c) (?_ : _ = ix2 a b)).symm
  funext d
  apply Fin.ext
  match d with
  | ⟨0, _⟩ => show 0 * 5120 + 1 * a.val = a.val; omega
  | ⟨1, _⟩ => show 0 * 27648 + 1 * b.val = b.val; omega

/-- The array of the weight codes ends as stated. -/
theorem final_5 (c : Dev nD) : (dats m 0 c).arrAt 5 cfg0.N = G5 m c :=
  (dats m 0 c).arrAt_eq_of_cover 5 (G5 m c) (fun t _ => flushed_5 m c t) fun i =>
    ⟨pt, flush0_5 _, by
      show i ∈ ((View.whole main_v1_3).slice (win0_5.rect pt)).set
      rw [View.set_slice_whole, Rect.mem_set_unit]
      intro a
      have h0 : (i 0 : Nat) < 5120 := (i 0).isLt
      have h1 : (i 1 : Nat) < 27648 := (i 1).isLt
      match a with
      | ⟨0, _⟩ => show 0 * 5120 ≤ (i 0 : Nat) ∧ (i 0 : Nat) < 0 * 5120 + 5120; omega
      | ⟨1, _⟩ => show 0 * 27648 ≤ (i 1 : Nat) ∧ (i 1 : Nat) < 0 * 27648 + 27648; omega⟩

/-- What is written back of the weight scales at a point is its block of the stated array. -/
theorem flushed_6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6, out_6]
  have key : ∀ (a : Fin 1) (b : Fin 27648), k0_pay2 (k0_pay10 (iblk m c 1 t)) (k0_pay11 (iblk m c 1 t)) (k0_pay12 (F := Ideal)) (ix2 a b) = G6 m c (ix2 a b) :=
    fun a b => (ws_at m c t a b).trans (G6_at m c a b).symm
  generalize k0_pay2 (k0_pay10 (iblk m c 1 t)) (k0_pay11 (iblk m c 1 t)) (k0_pay12 (F := Ideal)) = p at key ⊢
  generalize G6 m c = g at key ⊢
  funext j
  rw [View.read_apply]
  obtain ⟨a, b, rfl⟩ : ∃ (a : Fin 1) (b : Fin 27648), j = ix2 a b := ⟨j 0, j 1, eq_ix2 (n0 := 1) (n1 := 27648) j⟩
  refine (key a b).trans ?_
  refine (congrArg g (?_ : _ = ix2 a b)).symm
  funext d
  apply Fin.ext
  match d with
  | ⟨0, _⟩ => show 0 * 1 + 1 * a.val = a.val; omega
  | ⟨1, _⟩ => show 0 * 27648 + 1 * b.val = b.val; omega

/-- The array of the weight scales ends as stated. -/
theorem final_6 (c : Dev nD) : (dats m 0 c).arrAt 6 cfg0.N = G6 m c :=
  (dats m 0 c).arrAt_eq_of_cover 6 (G6 m c) (fun t _ => flushed_6 m c t) fun i =>
    ⟨pt, flush0_6 _, by
      show i ∈ ((View.whole main_v1_4).slice (win0_6.rect pt)).set
      rw [View.set_slice_whole, Rect.mem_set_unit]
      intro a
      have h0 : (i 0 : Nat) < 1 := (i 0).isLt
      have h1 : (i 1 : Nat) < 27648 := (i 1).isLt
      match a with
      | ⟨0, _⟩ => show 0 * 1 ≤ (i 0 : Nat) ∧ (i 0 : Nat) < 0 * 1 + 1; omega
      | ⟨1, _⟩ => show 0 * 27648 ≤ (i 1 : Nat) ∧ (i 1 : Nat) < 0 * 27648 + 27648; omega⟩

/-- The run, read: every result array at its value, the arguments unchanged. -/
theorem run : θ_run defs (onTc (τ := τ) (main (F := Ideal))) ⟨m, fun _ => 0, ρ⟩ fun r => ∀ c : Dev nD,
      r.2.mem ((c : Thread nD τ).loc main_v1_0) = G2 m c
      ∧ r.2.mem ((c : Thread nD τ).loc main_v1_1) = G3 m c
      ∧ r.2.mem ((c : Thread nD τ).loc main_v1_2) = G4 m c
      ∧ r.2.mem ((c : Thread nD τ).loc main_v1_3) = G5 m c
      ∧ r.2.mem ((c : Thread nD τ).loc main_v1_4) = G6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_2 m c), ((h c).1 3).trans (final_3 m c), ((h c).1 4).trans (final_4 m c),
      ((h c).1 5).trans (final_5 m c), ((h c).1 6).trans (final_6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.ReferenceIdeal.Hand
end
-- ==== Proof.Equation.lean ====
/- The kernel's five result arrays and the reference's, set equal. -/
module

public import proofs.«01_k».proof.Proof.KernelArray
public import proofs.«01_k».proof.Proof.RefArray

@[expose] public section

noncomputable section

namespace Cert.Equation

open Idealize.ShloMosaic Idealize.ShloMosaic.TcCoe Cert.Quant

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs launched on the same activations and weights, whose rows and columns have scales in range. -/
structure Agree : Prop where
  x : Cert.ReferenceIdeal.Hand.X m' c = Cert.KernelIdeal.Hand.X m c
  w : Cert.ReferenceIdeal.Hand.W m' c = Cert.KernelIdeal.Hand.W m c
  row : ∀ i, InRange (amax (Cert.KernelIdeal.Hand.X m c i)) (over448 (amax (Cert.KernelIdeal.Hand.X m c i)))
  col : ∀ j, InRange (amax fun l => Cert.KernelIdeal.Hand.W m c l j) (over448 (amax fun l => Cert.KernelIdeal.Hand.W m c l j))

variable {m m' c}

/-- The products are equal. -/
theorem G2_eq (h : Agree m m' c) : Cert.ReferenceIdeal.Hand.G2 m' c = Cert.KernelIdeal.Hand.G2 m c := by
  unfold Cert.ReferenceIdeal.Hand.G2 Cert.KernelIdeal.Hand.G2
  rw [h.x, h.w]
  exact funext fun i => (product_eq _ _ _ _ (h.row (i 0)) (h.col (i 1))).symm

/-- The activations' codes are equal. -/
theorem G3_eq (h : Agree m m' c) : Cert.ReferenceIdeal.Hand.G3 m' c = Cert.KernelIdeal.Hand.G3 m c := by
  unfold Cert.ReferenceIdeal.Hand.G3 Cert.KernelIdeal.Hand.G3
  rw [h.x]
  exact funext fun i => (xCode_eq _ _ (h.row (i 0)) _).symm

/-- The activations' scales are equal. -/
theorem G4_eq (h : Agree m m' c) : Cert.ReferenceIdeal.Hand.G4 m' c = Cert.KernelIdeal.Hand.G4 m c := by
  unfold Cert.ReferenceIdeal.Hand.G4 Cert.KernelIdeal.Hand.G4
  rw [h.x]
  exact funext fun i => (xScale_eq _ _ (h.row (i 0))).symm

/-- The weights' codes are equal. -/
theorem G5_eq (h : Agree m m' c) : Cert.ReferenceIdeal.Hand.G5 m' c = Cert.KernelIdeal.Hand.G5 m c := by
  unfold Cert.ReferenceIdeal.Hand.G5 Cert.KernelIdeal.Hand.G5
  rw [h.w]
  exact funext fun i => (wCode_eq _ _ (h.col (i 1)) _).symm

/-- The weights' scales are equal. -/
theorem G6_eq (h : Agree m m' c) : Cert.ReferenceIdeal.Hand.G6 m' c = Cert.KernelIdeal.Hand.G6 m c := by
  unfold Cert.ReferenceIdeal.Hand.G6 Cert.KernelIdeal.Hand.G6
  rw [h.w]
  exact funext fun i => (wScale_eq _ _ (h.col (i 1))).symm

end Cert.Equation
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.SameProgram
public import proofs.«01_k».proof.Proof.Range
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Quant

/-- What the claim's hypotheses give: the same arguments, every row and column in range. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_scales_in_range m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.Equation.Agree m m' c where
  x := funext fun i => funext fun k => congrFun h.1 (ix3 i 0 k)
  w := funext fun k => funext fun j => congrFun h.2 (ix2 k j)
  row := Cert.Pre_scales_in_range.row _ _ (hp c).1
  col := Cert.Pre_scales_in_range.col _ _ (hp c).2

/-- Kernel and reference leave the same five arrays, over the extended reals. -/
theorem algebraic : Cert.algebraic_KernelIdeal_ReferenceIdeal_pre_scales_in_range :=
  fun m g m' g' hp hm => ⟨Cert.KernelIdeal.Hand.G2 m, Cert.KernelIdeal.Hand.G3 m, Cert.KernelIdeal.Hand.G4 m, Cert.KernelIdeal.Hand.G5 m,
    Cert.KernelIdeal.Hand.G6 m, Cert.KernelIdeal.Hand.run m g,
    (θ_run Cert.ReferenceIdeal.defs _ _).mono (fun _ h c =>
      have e := agree m m' hp c (hm c)
      ⟨(h c).1.trans (Cert.Equation.G2_eq e), (h c).2.1.trans (Cert.Equation.G3_eq e), (h c).2.2.1.trans (Cert.Equation.G4_eq e),
        (h c).2.2.2.1.trans (Cert.Equation.G5_eq e), (h c).2.2.2.2.1.trans (Cert.Equation.G6_eq e), (h c).2.2.2.2.2⟩)
      (Cert.ReferenceIdeal.Hand.run m' g')⟩

/-- The certificate's claim. -/
theorem claim : Cert.Claim := ⟨Cert.Kernel.Gen.facts, Cert.KernelIdeal.Gen.facts, Cert.ReferenceIdeal.Gen.facts, Cert.Pre_scales_in_range.facts,
  fun m g _ => Cert.SameProgram.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  algebraic⟩

end Cert.Proof

end
